-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S10x16 : Shape := ⟨2, ![10, 16]⟩
abbrev S8192x10 : Shape := ⟨2, ![8192, 10]⟩
abbrev S16x512x512 : Shape := ⟨3, ![16, 512, 512]⟩
abbrev S8192x512 : Shape := ⟨2, ![8192, 512]⟩
abbrev S8192x512x16 : Shape := ⟨3, ![8192, 512, 16]⟩
abbrev S16x2 : Shape := ⟨2, ![16, 2]⟩
abbrev S_ : Shape := ⟨0, ![]⟩
abbrev S8192 : Shape := ⟨1, ![8192]⟩

class Facts : Prop where
  bcast_S_S10x16 : S_.BroadcastsInDim S10x16 (![] : Fin 0 → Fin S10x16.rank)
  reducesTo_S10x16_S_d0_1 : S10x16.ReducesTo [0, 1] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S8192x512x16 : S_.BroadcastsInDim S8192x512x16 (![] : Fin 0 → Fin S8192x512x16.rank)
  reducesTo_S8192x512x16_S_d0_1_2 : S8192x512x16.ReducesTo [0, 1, 2] S_
  bcast_S_S8192x10 : S_.BroadcastsInDim S8192x10 (![] : Fin 0 → Fin S8192x10.rank)
  reducesTo_S8192x10_S_d0_1 : S8192x10.ReducesTo [0, 1] S_
  reducesTo_S8192x512_S8192_d1 : S8192x512.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : FVec F S8192x512 .f32) (main_v13 : IVec S_ 1) (main_v16 : IVec S8192x10 1) : IVec S_ 1 :=
  let main_c_5 : IVec S_ 1 := constantI S_ 1 1#1
  let main_v17 : IVec S_ 1 := (fun x v => Host.reduce IntOp.andi x v reducesTo_S8192x10_S_d0_1 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x512_S8192_d1 h_S_) main_arg3 main_cst_6
  let main_cst_7 : FVec F S_ .f32 := constant S_ .f32 0x1E3CE508#32
  let main_v20 : FVec F S8192 .f32 := broadcastInDim S8192 ![] bcast_S_S8192 main_cst_7
  let main_v21 : FVec F S8192 .f32 := addf main_v19 main_v20
  let main_cst_8 : FVec F S_ .f32 := constant S_ .f32 0x00000000#32
  let main_v22 : FVec F S8192 .f32 := broadcastInDim S8192 ![] bcast_S_S8192 main_cst_8
  let main_v23 : IVec S8192 1 := cmpf .une main_v21 main_v22
  let main_c_9 : IVec S_ 1 := constantI S_ 1 1#1
  let main_v24 : IVec S_ 1 := (fun x v => Host.reduce IntOp.andi x v reducesTo_S8192_S_d0 h_S_) main_v23 main_c_9
  let main_v25 : IVec S_ 1 := andi main_v18 main_v24
  main_v25

def fn {F : FTy → Type} [FloatOps F] (main_arg0 : FVec F S10x16 .f32) (main_arg1 : FVec F S8192x10 .f32) (main_arg2 : FVec F S16x512x512 .f32) (main_arg3 : FVec F S8192x512 .f32) (main_arg4 : FVec F S8192x512x16 .f32) (main_arg5 : FVec F S8192x10 .f32) (main_arg6 : IVec S16x2 32) : IVec S_ 1 :=
  let main_v0 : FVec F S10x16 .f32 := Host.absf main_arg0
  let main_cst : FVec F S_ .f32 := constant S_ .f32 0x7F800000#32
  let main_v1 : FVec F S10x16 .f32 := broadcastInDim S10x16 ![] bcast_S_S10x16 main_cst
  let main_v2 : IVec S10x16 1 := cmpf .olt main_v0 main_v1
  let main_c : IVec S_ 1 := constantI S_ 1 1#1
  let main_v3 : IVec S_ 1 := (fun x v => Host.reduce IntOp.andi x v reducesTo_S10x16_S_d0_1 h_S_) main_v2 main_c
  let main_v4 : FVec F S16x512x512 .f32 := Host.absf main_arg2
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S8192x512x16 .f32 := Host.absf main_arg4
  let main_cst_2 : FVec F S_ .f32 := constant S_ .f32 0x7F800000#32
  let main_v10 : FVec F S8192x512x16 .f32 := broadcastInDim S8192x512x16 ![] bcast_S_S8192x512x16 main_cst_2
  let main_v11 : IVec S8192x512x16 1 := cmpf .olt main_v9 main_v10
  let main_c_3 : IVec S_ 1 := constantI S_ 1 1#1
  let main_v12 : IVec S_ 1 := (fun x v => Host.reduce IntOp.andi x v reducesTo_S8192x512x16_S_d0_1_2 h_S_) main_v11 main_c_3
  let main_v13 : IVec S_ 1 := andi main_v8 main_v12
  let main_v14 : FVec F S8192x10 .f32 := Host.absf main_arg5
  let main_cst_4 : FVec F S_ .f32 := constant S_ .f32 0x7F800000#32
  let main_v15 : FVec F S8192x10 .f32 := broadcastInDim S8192x10 ![] bcast_S_S8192x10 main_cst_4
  let main_v16 : IVec S8192x10 1 := cmpf .olt main_v14 main_v15
  fn_part1 (F := F) main_arg3 main_v13 main_v16
-- ==== Kernel.lean ====
abbrev S10x16 : Shape := ⟨2, ![10, 16]⟩
abbrev S8192x10 : Shape := ⟨2, ![8192, 10]⟩
abbrev S16x512x512 : Shape := ⟨3, ![16, 512, 512]⟩
abbrev S8192x512 : Shape := ⟨2, ![8192, 512]⟩
abbrev S8192x512x16 : Shape := ⟨3, ![8192, 512, 16]⟩
abbrev S16x2 : Shape := ⟨2, ![16, 2]⟩
abbrev S8192x16x512 : Shape := ⟨3, ![8192, 16, 512]⟩
abbrev S1x1 : Shape := ⟨2, ![1, 1]⟩
abbrev S512x16x512 : Shape := ⟨3, ![512, 16, 512]⟩
abbrev S512x512 : Shape := ⟨2, ![512, 512]⟩
abbrev S512x10 : Shape := ⟨2, ![512, 10]⟩
abbrev S4x512x512 : Shape := ⟨3, ![4, 512, 512]⟩
abbrev S2048x10 : Shape := ⟨2, ![2048, 10]⟩
abbrev S1x128 : Shape := ⟨2, ![1, 128]⟩
abbrev S512x1x512 : Shape := ⟨3, ![512, 1, 512]⟩
abbrev S512x16 : Shape := ⟨2, ![512, 16]⟩
abbrev S512 : Shape := ⟨1, ![512]⟩
abbrev S512x1 : Shape := ⟨2, ![512, 1]⟩
abbrev S10 : Shape := ⟨1, ![10]⟩
abbrev S1x10 : Shape := ⟨2, ![1, 10]⟩
abbrev S1x512x1 : Shape := ⟨3, ![1, 512, 1]⟩
abbrev S1 : Shape := ⟨1, ![1]⟩
abbrev S1x1x1 : Shape := ⟨3, ![1, 1, 1]⟩
abbrev S1x512x512 : Shape := ⟨3, ![1, 512, 512]⟩
abbrev S1x512x10 : Shape := ⟨3, ![1, 512, 10]⟩
abbrev S1x512 : Shape := ⟨2, ![1, 512]⟩
abbrev S1x1x128 : Shape := ⟨3, ![1, 1, 128]⟩

abbrev nBuf : Space → Nat
  | .hbm => 9
  | .vmem => 15
  | .smem => 0
  | _ => 0

abbrev bufTy : (tb : Table) → Fin (tcTables nBuf tb) → BufTy
  | .hbm, ⟨0, _⟩ => ⟨S10x16, .f32⟩
  | .hbm, ⟨1, _⟩ => ⟨S8192x10, .f32⟩
  | .hbm, ⟨2, _⟩ => ⟨S16x512x512, .f32⟩
  | .hbm, ⟨3, _⟩ => ⟨S8192x512, .f32⟩
  | .hbm, ⟨4, _⟩ => ⟨S8192x512x16, .f32⟩
  | .hbm, ⟨5, _⟩ => ⟨S8192x10, .f32⟩
  | .hbm, ⟨6, _⟩ => ⟨S16x2, .i32⟩
  | .hbm, ⟨7, _⟩ => ⟨S8192x16x512, .f32⟩
  | .hbm, ⟨8, _⟩ => ⟨S1x1, .f32⟩
  | .local _ .vmem, ⟨0, _⟩ => ⟨S512x16x512, .f32⟩
  | .local _ .vmem, ⟨1, _⟩ => ⟨S512x16x512, .f32⟩
  | .local _ .vmem, ⟨2, _⟩ => ⟨S512x512, .f32⟩
  | .local _ .vmem, ⟨3, _⟩ => ⟨S512x512, .f32⟩
  | .local _ .vmem, ⟨4, _⟩ => ⟨S512x10, .f32⟩
  | .local _ .vmem, ⟨5, _⟩ => ⟨S512x10, .f32⟩
  | .local _ .vmem, ⟨6, _⟩ => ⟨S10x16, .f32⟩
  | .local _ .vmem, ⟨7, _⟩ => ⟨S4x512x512, .f32⟩
  | .local _ .vmem, ⟨8, _⟩ => ⟨S4x512x512, .f32⟩
  | .local _ .vmem, ⟨9, _⟩ => ⟨S2048x10, .f32⟩
  | .local _ .vmem, ⟨10, _⟩ => ⟨S2048x10, .f32⟩
  | .local _ .vmem, ⟨11, _⟩ => ⟨S2048x10, .f32⟩
  | .local _ .vmem, ⟨12, _⟩ => ⟨S2048x10, .f32⟩
  | .local _ .vmem, ⟨13, _⟩ => ⟨S1x1, .f32⟩
  | .local _ .vmem, ⟨14, _⟩ => ⟨S1x128, .f32⟩
  | _, _ => ⟨S10x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![20], ![false]⟩

def k0_cond4 (i : grid0.Coords) : BitVec 1 :=
  let arg0 : BitVec 32 := BitVec.ofNat 32 (i 0).val
  let c19_i32 : BitVec 32 := 19#32
  let v10 : BitVec 1 := Scalar.cmpi .eq arg0 c19_i32
  let v11 : BitVec 32 := Scalar.extui v10
  let c0_i32_4 : BitVec 32 := 0#32
  let v12 : BitVec 1 := Scalar.cmpi .ne v11 c0_i32_4
  v12

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S10x16 : Shape := ⟨2, ![10, 16]⟩
abbrev S8192x10 : Shape := ⟨2, ![8192, 10]⟩
abbrev S16x512x512 : Shape := ⟨3, ![16, 512, 512]⟩
abbrev S8192x512 : Shape := ⟨2, ![8192, 512]⟩
abbrev S8192x512x16 : Shape := ⟨3, ![8192, 512, 16]⟩
abbrev S16x2 : Shape := ⟨2, ![16, 2]⟩
abbrev S_ : Shape := ⟨0, ![]⟩
abbrev S8192 : Shape := ⟨1, ![8192]⟩
abbrev S8192x1 : Shape := ⟨2, ![8192, 1]⟩
abbrev S16x512 : Shape := ⟨2, ![16, 512]⟩
abbrev S16x512x10 : Shape := ⟨3, ![16, 512, 10]⟩
abbrev S16x512x1 : Shape := ⟨3, ![16, 512, 1]⟩
abbrev S8192x512x1 : Shape := ⟨3, ![8192, 512, 1]⟩
abbrev S8192x16 : Shape := ⟨2, ![8192, 16]⟩
abbrev S8192x16x1 : Shape := ⟨3, ![8192, 16, 1]⟩
abbrev S8192x1x16 : Shape := ⟨3, ![8192, 1, 16]⟩
abbrev S1x10x16 : Shape := ⟨3, ![1, 10, 16]⟩
abbrev S8192x10x16 : Shape := ⟨3, ![8192, 10, 16]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S10x16, .f32⟩
  | 1 => ⟨S8192x10, .f32⟩
  | 2 => ⟨S16x512x512, .f32⟩
  | 3 => ⟨S8192x512, .f32⟩
  | 4 => ⟨S8192x512x16, .f32⟩
  | 5 => ⟨S8192x10, .f32⟩
  | 6 => ⟨S16x2, .i32⟩
  | 7 => ⟨S_, .f32⟩
  | 8 => ⟨S8192, .f32⟩
  | 9 => ⟨S_, .f32⟩
  | 10 => ⟨S8192, .f32⟩
  | 11 => ⟨S8192, .f32⟩
  | 12 => ⟨S8192x1, .f32⟩
  | 13 => ⟨S8192x10, .f32⟩
  | 14 => ⟨S8192x10, .f32⟩
  | 15 => ⟨S8192x10, .f32⟩
  | 16 => ⟨S_, .f32⟩
  | 17 => ⟨S8192, .f32⟩
  | 18 => ⟨S8192x1, .f32⟩
  | 19 => ⟨S8192x10, .f32⟩
  | 20 => ⟨S8192x10, .f32⟩
  | 21 => ⟨S_, .f32⟩
  | 22 => ⟨S8192, .f32⟩
  | 23 => ⟨S_, .f32⟩
  | 24 => ⟨S8192, .f32⟩
  | 25 => ⟨S8192, .f32⟩
  | 26 => ⟨S8192x1, .f32⟩
  | 27 => ⟨S8192x10, .f32⟩
  | 28 => ⟨S8192x10, .f32⟩
  | 29 => ⟨S8192x10, .f32⟩
  | 30 => ⟨S_, .f32⟩
  | 31 => ⟨S8192, .f32⟩
  | 32 => ⟨S8192x1, .f32⟩
  | 33 => ⟨S8192x1, .f32⟩
  | 34 => ⟨S8192x10, .f32⟩
  | 35 => ⟨S8192x10, .f32⟩
  | 36 => ⟨S8192x10, .f32⟩
  | 37 => ⟨S_, .f32⟩
  | 38 => ⟨S8192, .f32⟩
  | 39 => ⟨S8192, .f32⟩
  | 40 => ⟨S_, .f32⟩
  | 41 => ⟨S_, .f32⟩
  | 42 => ⟨S_, .f32⟩
  | 43 => ⟨S_, .f32⟩
  | 44 => ⟨S_, .f32⟩
  | 45 => ⟨S16x512x512, .f32⟩
  | 46 => ⟨S16x512x512, .i1⟩
  | 47 => ⟨S16x512x512, .f32⟩
  | 48 => ⟨S_, .f32⟩
  | 49 => ⟨S16x512, .f32⟩
  | 50 => ⟨S16x512x10, .f32⟩
  | 51 => ⟨S16x512x1, .f32⟩
  | 52 => ⟨S16x512x10, .f32⟩
  | 53 => ⟨S16x512x10, .f32⟩
  | 54 => ⟨S16x512x10, .f32⟩
  | 55 => ⟨S_, .f32⟩
  | 56 => ⟨S_, .f32⟩
  | 57 => ⟨S16x512x10, .f32⟩
  | 58 => ⟨S16x512x10, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S8192x512, .f32⟩
  | 66 => ⟨S_, .f32⟩
  | 67 => ⟨S8192x512, .f32⟩
  | 68 => ⟨S8192x512, .f32⟩
  | 69 => ⟨S8192x512x1, .f32⟩
  | 70 => ⟨S8192x512x16, .f32⟩
  | 71 => ⟨S8192x512x16, .f32⟩
  | 72 => ⟨S8192x512x16, .f32⟩
  | 73 => ⟨S_, .f32⟩
  | 74 => ⟨S8192x512, .f32⟩
  | 75 => ⟨S8192x512x1, .f32⟩
  | 76 => ⟨S8192x512x16, .f32⟩
  | 77 => ⟨S8192x512x16, .f32⟩
  | 78 => ⟨S8192x512x1, .f32⟩
  | 79 => ⟨S8192x512x16, .f32⟩
  | 80 => ⟨S8192x512x16, .f32⟩
  | 81 => ⟨S_, .f32⟩
  | 82 => ⟨S8192x16, .f32⟩
  | 83 => ⟨S_, .f32⟩
  | 84 => ⟨S8192, .f32⟩
  | 85 => ⟨S8192x1, .f32⟩
  | 86 => ⟨S_, .f32⟩
  | 87 => ⟨S8192x1, .f32⟩
  | 88 => ⟨S8192x1, .f32⟩
  | 89 => ⟨S8192x16, .f32⟩
  | 90 => ⟨S8192x16, .f32⟩
  | 91 => ⟨S_, .i32⟩
  | 92 => ⟨S_, .f32⟩
  | 93 => ⟨S8192x16, .f32⟩
  | 94 => ⟨S8192x16x1, .f32⟩
  | 95 => ⟨S_, .f32⟩
  | 96 => ⟨S8192x16, .f32⟩
  | 97 => ⟨S8192x1x16, .f32⟩
  | 98 => ⟨S1x10x16, .f32⟩
  | 99 => ⟨S8192x10x16, .f32⟩
  | 100 => ⟨S8192x10x16, .f32⟩
  | 101 => ⟨S8192x10x16, .f32⟩
  | 102 => ⟨S8192x10x16, .f32⟩
  | 103 => ⟨S_, .f32⟩
  | 104 => ⟨S8192x10, .f32⟩
  | 105 => ⟨S8192x10, .f32⟩
  | 106 => ⟨S8192x10, .f32⟩
  | 107 => ⟨S_, .f32⟩
  | 108 => ⟨S8192, .f32⟩
  | 109 => ⟨S_, .f32⟩
  | 110 => ⟨S_, .f32⟩
  | 111 => ⟨S_, .f32⟩
  | 112 => ⟨S_, .f32⟩
  | 113 => ⟨S_, .f32⟩
  | 114 => ⟨S16x512, .f32⟩
  | 115 => ⟨S_, .f32⟩
  | 116 => ⟨S16x512, .f32⟩
  | 117 => ⟨S16x512, .f32⟩
  | 118 => ⟨S16x512x1, .f32⟩
  | 119 => ⟨S16x512x512, .f32⟩
  | 120 => ⟨S16x512x512, .f32⟩
  | 121 => ⟨S16x512x512, .f32⟩
  | 122 => ⟨S_, .f32⟩
  | 123 => ⟨S16x512, .f32⟩
  | 124 => ⟨S16x512x1, .f32⟩
  | 125 => ⟨S16x512x512, .f32⟩
  | 126 => ⟨S16x512x512, .f32⟩
  | 127 => ⟨S16x512x10, .f32⟩
  | _ => ⟨S10x16, .f32⟩

abbrev hbmTy0_1 (i : Nat) : BufTy := match i % 128 with
  | 0 => ⟨S16x512x10, .f32⟩
  | 1 => ⟨S8192x10, .f32⟩
  | 2 => ⟨S_, .f32⟩
  | 3 => ⟨S8192x10, .f32⟩
  | 4 => ⟨S8192x10, .f32⟩
  | 5 => ⟨S8192x10, .f32⟩
  | 6 => ⟨S8192x10, .f32⟩
  | 7 => ⟨S_, .f32⟩
  | 8 => ⟨S8192, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S1x1, .f32⟩
  | _ => ⟨S10x16, .f32⟩

abbrev hbmTy (i : Nat) : BufTy := match i / 128 with
  | 0 => hbmTy0_0 i
  | 1 => hbmTy0_1 i
  | _ => ⟨S10x16, .f32⟩

abbrev bufTy : (tb : Table) → Fin (tcTables nBuf tb) → BufTy
  | .hbm, ⟨i, _⟩ => hbmTy i
  | _, _ => ⟨S10x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_call0_cst_0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_cst_1 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_cst_5 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_6 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_v30 : Ref sig .tc := ⟨.hbm, 61, rfl⟩
abbrev main_cst_9 : Ref sig .tc := ⟨.hbm, 62, rfl⟩
abbrev main_v31 : Ref sig .tc := ⟨.hbm, 63, rfl⟩
abbrev main_cst_10 : Ref sig .tc := ⟨.hbm, 64, rfl⟩
abbrev main_v32 : Ref sig .tc := ⟨.hbm, 65, rfl⟩
abbrev main_cst_11 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_12 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_13 : Ref sig .tc := ⟨.hbm, 81, rfl⟩
abbrev main_v46 : Ref sig .tc := ⟨.hbm, 82, rfl⟩
abbrev main_cst_14 : Ref sig .tc := ⟨.hbm, 83, rfl⟩
abbrev main_v47 : Ref sig .tc := ⟨.hbm, 84, rfl⟩
abbrev main_v48 : Ref sig .tc := ⟨.hbm, 85, rfl⟩
abbrev main_cst_15 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c : Ref sig .tc := ⟨.hbm, 91, rfl⟩
abbrev main_call1_v0 : Ref sig .tc := ⟨.hbm, 92, rfl⟩
abbrev main_v53 : Ref sig .tc := ⟨.hbm, 93, rfl⟩
abbrev main_v54 : Ref sig .tc := ⟨.hbm, 94, rfl⟩
abbrev main_cst_16 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_17 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_18 : Ref sig .tc := ⟨.hbm, 107, rfl⟩
abbrev main_v65 : Ref sig .tc := ⟨.hbm, 108, rfl⟩
abbrev main_cst_19 : Ref sig .tc := ⟨.hbm, 109, rfl⟩
abbrev main_v66 : Ref sig .tc := ⟨.hbm, 110, rfl⟩
abbrev main_cst_20 : Ref sig .tc := ⟨.hbm, 111, rfl⟩
abbrev main_v67 : Ref sig .tc := ⟨.hbm, 112, rfl⟩
abbrev main_cst_21 : Ref sig .tc := ⟨.hbm, 113, rfl⟩
abbrev main_v68 : Ref sig .tc := ⟨.hbm, 114, rfl⟩
abbrev main_cst_22 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_23 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_24 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_25 : Ref sig .tc := ⟨.hbm, 135, rfl⟩
abbrev main_v86 : Ref sig .tc := ⟨.hbm, 136, rfl⟩
abbrev main_cst_26 : Ref sig .tc := ⟨.hbm, 137, rfl⟩
abbrev main_v87 : Ref sig .tc := ⟨.hbm, 138, rfl⟩
abbrev main_cst_27 : Ref sig .tc := ⟨.hbm, 139, rfl⟩
abbrev main_v88 : Ref sig .tc := ⟨.hbm, 140, rfl⟩
abbrev main_cst_28 : Ref sig .tc := ⟨.hbm, 141, rfl⟩
abbrev main_v89 : Ref sig .tc := ⟨.hbm, 142, rfl⟩
abbrev main_cst_29 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_30 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩

abbrev nD : Nat := 1
abbrev τ : Topo := Topo.v7x

variable {F : FTy → Type} [FloatOps F]
-- ==== Proof.Reals.lean ====
/- Arithmetic of the extended reals used on both sides of the claim: sums of reals, the soft-max with and
   without the subtraction of the row's maximum, and the f32 constants the two programs carry. -/
module

public import Idealize.ShloMosaic.PureOps.Ideal
public import Idealize.ShloMosaic.Lib.IdealHost

@[expose] public section

noncomputable section

open Idealize.ShloMosaic
open scoped BigOperators

namespace Cert.Loss

/-! ## Sums -/

/-- A finite sum of reals, read in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Nonnegative real weights times one fixed extended real: the weights may be added first. -/
theorem sum_coe_mul {ι : Type} (s : Finset ι) (q : ι → ℝ) (hq : ∀ i, 0 ≤ q i) (y : EReal) :
    ∑ i ∈ s, (q i : EReal) * y = ((∑ i ∈ s, q i : ℝ) : EReal) * y := by
  classical
  induction s using Finset.induction_on with
  | empty => simp
  | insert a s ha ih =>
    rw [Finset.sum_insert ha, Finset.sum_insert ha, ih, EReal.coe_add,
      EReal.right_distrib_of_nonneg (by exact_mod_cast hq a) (by exact_mod_cast Finset.sum_nonneg fun i _ => hq i)]

/-- A sum of extended reals times a nonnegative real is the sum of the products. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- If a sum of two extended reals is real, both are. -/
theorem real_of_add {a b : EReal} {w : ℝ} (h : a + b = (w : EReal)) : (∃ r : ℝ, a = r) ∧ ∃ r : ℝ, b = r := by
  induction a with
  | bot => rw [EReal.bot_add] at h; exact absurd h.symm (EReal.coe_ne_bot w)
  | top =>
    induction b with
    | bot => rw [EReal.add_bot] at h; exact absurd h.symm (EReal.coe_ne_bot w)
    | top => rw [EReal.top_add_top] at h; exact absurd h.symm (EReal.coe_ne_top w)
    | coe b => rw [EReal.top_add_coe] at h; exact absurd h.symm (EReal.coe_ne_top w)
  | coe a =>
    induction b with
    | bot => rw [EReal.add_bot] at h; exact absurd h.symm (EReal.coe_ne_bot w)
    | top => rw [EReal.coe_add_top] at h; exact absurd h.symm (EReal.coe_ne_top w)
    | coe b => exact ⟨⟨a, rfl⟩, ⟨b, rfl⟩⟩

/-- If a finite sum of extended reals is real, every term is. -/
theorem real_of_sum {ι : Type} (s : Finset ι) (f : ι → EReal) :
    ∀ w : ℝ, ∑ i ∈ s, f i = (w : EReal) → ∀ i ∈ s, ∃ r : ℝ, f i = r := by
  classical
  induction s using Finset.induction_on with
  | empty => intro w _ i hi; exact absurd hi (Finset.notMem_empty i)
  | insert a s ha ih =>
    intro w h i hi
    rw [Finset.sum_insert ha] at h
    obtain ⟨h1, ⟨v, h2⟩⟩ := real_of_add h
    rcases Finset.mem_insert.1 hi with rfl | hi
    · exact h1
    · exact ih v h2 i hi

/-! ## Quotients -/

/-- Division of reals with a nonzero divisor is real division. -/
theorem div_real (a : ℝ) {b : ℝ} (hb : b ≠ 0) : Ideal.div (a : EReal) (b : EReal) = ((a / b : ℝ) : EReal) := by
  rw [Ideal.div_coe hb, ← EReal.coe_mul, mul_one_div]

/-- Anything divided by an infinite extended real is zero. -/
theorem div_inf (a : EReal) {b : EReal} (hb : b = ⊤ ∨ b = ⊥) : Ideal.div a b = 0 := by
  rcases hb with rfl | rfl
  · rw [Ideal.div, if_neg EReal.top_ne_zero, EReal.inv_top, mul_zero]
  · rw [Ideal.div, if_neg EReal.bot_ne_zero, EReal.inv_bot, mul_zero]

/-! ## The soft-max -/

/-- A row's soft-max: the exponential over the sum of the row's exponentials. -/
def sm {n : ℕ} (x : Fin n → EReal) (i : Fin n) : EReal := Ideal.div (Ideal.exp (x i)) (∑ e, Ideal.exp (x e))

/-- The value a maximum starts from. -/
def mx0 : EReal := Ideal.ofBits .f32 0xFF800000#32

/-- A row's maximum, started from `mx0`. -/
def mx {n : ℕ} (x : Fin n → EReal) : EReal := max mx0 (Finset.fold max mx0 (fun j => x j) Finset.univ)

/-- A row's soft-max taken after its maximum is subtracted. -/
def smM {n : ℕ} (x : Fin n → EReal) (i : Fin n) : EReal :=
  Ideal.div (Ideal.exp (x i - mx x)) (∑ e, Ideal.exp (x e - mx x))

/-- A row's log-soft-max taken after its maximum is subtracted. -/
def lsmM {n : ℕ} (x : Fin n → EReal) (i : Fin n) : EReal :=
  (x i - mx x) - Ideal.log (∑ e, Ideal.exp (x e - mx x))

/-- The real soft-max of a row of reals. -/
def smR {n : ℕ} (x : Fin n → ℝ) (i : Fin n) : ℝ := Real.exp (x i) / ∑ e, Real.exp (x e)

/-- A maximum starts from minus infinity. -/
theorem mx0_eq : mx0 = ⊥ := by
  unfold mx0
  simp [Ideal.ofBits, Ideal.ieee]

/-- The maximum of a nonempty row of reals is real. -/
theorem mx_real {n : ℕ} (x : Fin n → ℝ) (i : Fin n) : ∃ M : ℝ, mx (fun j => (x j : EReal)) = M := by
  have h1 : mx (fun j => (x j : EReal)) ≠ ⊤ := by
    unfold mx
    rw [mx0_eq]
    refine ne_of_lt (max_lt bot_lt_top ?_)
    exact Finset.fold_max_lt (s := Finset.univ) (c := (⊤ : EReal)) |>.2 ⟨bot_lt_top, fun j _ => EReal.coe_lt_top _⟩
  have h2 : mx (fun j => (x j : EReal)) ≠ ⊥ := by
    unfold mx
    rw [mx0_eq]
    refine ne_of_gt (lt_of_lt_of_le (EReal.bot_lt_coe (x i)) (le_max_of_le_right ?_))
    exact Finset.le_fold_max (s := Finset.univ) ((x i : EReal)) |>.2 (Or.inr ⟨i, Finset.mem_univ i, le_refl _⟩)
  exact ⟨_, (EReal.coe_toReal h1 h2).symm⟩

/-- The sum of a nonempty row's exponentials is positive. -/
theorem sum_exp_pos {n : ℕ} (x : Fin n → ℝ) (i : Fin n) : 0 < ∑ e, Real.exp (x e) :=
  Finset.sum_pos (fun e _ => Real.exp_pos _) ⟨i, Finset.mem_univ i⟩

/-- A row of reals: the sum of the exponentials is the real one. -/
theorem sum_exp_coe {n : ℕ} (x : Fin n → ℝ) :
    ∑ e, Ideal.exp (x e : EReal) = ((∑ e, Real.exp (x e) : ℝ) : EReal) := by
  rw [coe_sum]; rfl

/-- A row of reals: the soft-max is the real one. -/
theorem sm_coe {n : ℕ} (x : Fin n → ℝ) (i : Fin n) : sm (fun j => (x j : EReal)) i = smR x i := by
  unfold sm smR
  rw [sum_exp_coe, Ideal.exp_coe, div_real _ (sum_exp_pos x i).ne']

/-- Subtracting `M` from each entry scales the sum of the exponentials by `exp (-M)`. -/
theorem sum_exp_sub {n : ℕ} (x : Fin n → ℝ) (M : ℝ) :
    ∑ e, Real.exp (x e - M) = (∑ e, Real.exp (x e)) * Real.exp (-M) := by
  rw [Finset.sum_mul]
  exact Finset.sum_congr rfl fun e _ => by rw [sub_eq_add_neg, Real.exp_add]

/-- A row of reals less `M`: the sum of the exponentials is the real one. -/
theorem sum_exp_sub_coe {n : ℕ} (x : Fin n → ℝ) (M : ℝ) :
    ∑ e, Ideal.exp ((x e : EReal) - M) = ((∑ e, Real.exp (x e - M) : ℝ) : EReal) := by
  rw [coe_sum]; rfl

/-- On a row of reals, subtracting the maximum first does not change the soft-max. -/
theorem smM_coe {n : ℕ} (x : Fin n → ℝ) (i : Fin n) : smM (fun j => (x j : EReal)) i = smR x i := by
  obtain ⟨M, hM⟩ := mx_real x i
  unfold smM smR
  rw [hM, sum_exp_sub_coe, ← EReal.coe_sub, Ideal.exp_coe, div_real _ (sum_exp_pos (fun e => x e - M) i).ne',
    sum_exp_sub, sub_eq_add_neg, Real.exp_add, mul_div_mul_right _ _ (Real.exp_pos _).ne']

/-- On a row of reals, the log-soft-max after the maximum is subtracted is the entry less the log of the sum. -/
theorem lsmM_coe {n : ℕ} (x : Fin n → ℝ) (i : Fin n) :
    lsmM (fun j => (x j : EReal)) i = ((x i - Real.log (∑ e, Real.exp (x e)) : ℝ) : EReal) := by
  obtain ⟨M, hM⟩ := mx_real x i
  have hp := sum_exp_pos (fun e => x e - M) i
  unfold lsmM
  rw [hM, sum_exp_sub_coe, Ideal.log_coe, if_neg (not_le.2 hp), ← EReal.coe_sub, ← EReal.coe_sub, sum_exp_sub,
    Real.log_mul (sum_exp_pos x i).ne' (Real.exp_pos _).ne', Real.log_exp]
  congr 1
  ring

/-- A row of reals: an entry less the logarithm of the sum of the exponentials is the real one. -/
theorem log_sum_exp_coe {n : ℕ} (x : Fin n → ℝ) (i : Fin n) :
    (x i : EReal) - Ideal.log (∑ e, Ideal.exp (x e : EReal)) = ((x i - Real.log (∑ e, Real.exp (x e)) : ℝ) : EReal) := by
  rw [sum_exp_coe, Ideal.log_coe, if_neg (not_le.2 (sum_exp_pos x i)), ← EReal.coe_sub]

/-- The real soft-max is nonnegative. -/
theorem smR_nonneg {n : ℕ} (x : Fin n → ℝ) (i : Fin n) : 0 ≤ smR x i :=
  div_nonneg (Real.exp_pos _).le (sum_exp_pos x i).le

/-- The real soft-max of a nonempty row adds up to one. -/
theorem smR_sum {n : ℕ} (x : Fin n → ℝ) (i : Fin n) : ∑ e, smR x e = 1 := by
  unfold smR
  rw [← Finset.sum_div, div_self (sum_exp_pos x i).ne']

/-! ## The constants -/

/-- The small number added to a divisor or to a logarithm's argument. -/
def eps : EReal := Ideal.ofBits .f32 0x1E3CE508#32
/-- The factor 2. -/
def two : EReal := Ideal.ofBits .f32 0x40000000#32
/-- The weight 0.2, as its f32 value. -/
def c02 : EReal := Ideal.ofBits .f32 0x3E4CCCCD#32
/-- The weight 2000. -/
def c2000 : EReal := Ideal.ofBits .f32 0x44FA0000#32
/-- The number of documents. -/
def c8192 : EReal := Ideal.ofBits .f32 0x46000000#32
/-- One over the number of documents. -/
def cinv : EReal := Ideal.ofBits .f32 0x39000000#32

/-- The small number is real. -/
theorem eps_real : ∃ r : ℝ, eps = r := by
  unfold eps
  simp [Ideal.ofBits, Ideal.ieee, -EReal.coe_mul]

/-- The factor 2 is two. -/
theorem two_eq : two = ((2 : ℝ) : EReal) := by
  unfold two
  simp [Ideal.ofBits, Ideal.ieee, -EReal.coe_mul]; norm_num

/-- The weight 0.2 is real. -/
theorem c02_real : ∃ r : ℝ, c02 = r := by
  unfold c02
  simp [Ideal.ofBits, Ideal.ieee, -EReal.coe_mul]

/-- The weight 2000 is real. -/
theorem c2000_real : ∃ r : ℝ, c2000 = r := by
  unfold c2000
  simp [Ideal.ofBits, Ideal.ieee, -EReal.coe_mul]

/-- The number of documents is 8192. -/
theorem c8192_eq : c8192 = ((8192 : ℝ) : EReal) := by
  unfold c8192
  simp [Ideal.ofBits, Ideal.ieee, -EReal.coe_mul]; norm_num

/-- Its reciprocal is exactly 1/8192. -/
theorem cinv_eq : cinv = ((1 / 8192 : ℝ) : EReal) := by
  unfold cinv
  simp [Ideal.ofBits, Ideal.ieee, -EReal.coe_mul]; norm_num

/-- The reference's division by the number of documents is the kernel's product with the reciprocal. -/
theorem div_c8192 (x : EReal) : Ideal.div x c8192 = x * cinv := by
  rw [c8192_eq, cinv_eq, Ideal.div_coe (by norm_num)]

end Cert.Loss

end
-- ==== Proof.Terms.lean ====
/- The loss's terms as functions of plain arrays of extended reals, once as the reference writes them and once as
   the kernel does. `Proof/Maths.lean` shows that they agree. -/
module

public import proofs.«01_k».proof.Proof.Reals

@[expose] public section

noncomputable section

open Idealize.ShloMosaic
open scoped BigOperators

namespace Cert.Loss

/-- Document `i` of partition `p`. -/
abbrev row (p : Fin 16) (i : Fin 512) : Fin 8192 := ⟨p.val * 512 + i.val, by omega⟩

/-- The partition a document lies in. -/
abbrev part (n : Fin 8192) : Fin 16 := ⟨n.val / 512, by omega⟩

/-- A document's place in its partition. -/
abbrev place (n : Fin 8192) : Fin 512 := ⟨n.val % 512, by omega⟩

/-! ## The reference's terms -/

/-- The adjacency entry of a graph kernel's value: one where it is positive, zero elsewhere. -/
def posR (a : EReal) : EReal := FloatOps.uitofp (F := Ideal) .f32 (BitVec.ofBool (decide (0 < a)))

/-- The entropy's sum over the documents. -/
def entR (pd : Fin 8192 → Fin 10 → EReal) : EReal := ∑ n, -∑ d, smM (pd n) d * lsmM (pd n) d

/-- The trace with the degrees. -/
def degR (k : Fin 16 → Fin 512 → Fin 512 → EReal) (pd : Fin 8192 → Fin 10 → EReal) : EReal :=
  ∑ p, ∑ i, ∑ d, (∑ x, posR (k p x i)) * smM (pd (row p i)) d * smM (pd (row p i)) d

/-- The trace with the adjacency. -/
def adjR (k : Fin 16 → Fin 512 → Fin 512 → EReal) (pd : Fin 8192 → Fin 10 → EReal) : EReal :=
  ∑ p, ∑ i, ∑ d, smM (pd (row p i)) d * ∑ j, posR (k p i j) * smM (pd (row p j)) d

/-- A document's topic mass before normalisation. -/
def massR (x : Fin 512 → Fin 16 → EReal) (sp : Fin 512 → EReal) (t : Fin 16) : EReal := ∑ v, smM (x v) t * sp v

/-- A document's topic proportions. -/
def propR (x : Fin 512 → Fin 16 → EReal) (sp : Fin 512 → EReal) (t : Fin 16) : EReal :=
  Ideal.div (massR x sp t) (∑ u, massR x sp u + eps)

/-- A document's term of the Gaussian likelihood. -/
def gaussR (x : Fin 512 → Fin 16 → EReal) (sp : Fin 512 → EReal) (pd : Fin 10 → EReal) (el : Fin 10 → Fin 16 → EReal) :
    EReal :=
  ∑ d, -smM pd d * ∑ t, (propR x sp t - el d t) * (propR x sp t - el d t)

/-- The cross term's sum over the documents. -/
def crossR (k : Fin 16 → Fin 512 → Fin 512 → EReal) (pp pd : Fin 8192 → Fin 10 → EReal) : EReal :=
  ∑ n, ∑ d, smM (pd n) d * Ideal.log (∑ j, smM (k (part n) (place n)) j * pp (row (part n) j) d + eps)

/-- The reference's loss. -/
def lossR (el : Fin 10 → Fin 16 → EReal) (pp : Fin 8192 → Fin 10 → EReal) (k : Fin 16 → Fin 512 → Fin 512 → EReal)
    (sp : Fin 8192 → Fin 512 → EReal) (x : Fin 8192 → Fin 512 → Fin 16 → EReal) (pd : Fin 8192 → Fin 10 → EReal) : EReal :=
  (c02 * Ideal.div (degR k pd - adjR k pd) c8192 - c2000 * Ideal.div (∑ n, gaussR (x n) (sp n) (pd n) el) c8192)
    - c02 * (Ideal.div (crossR k pp pd) c8192 + Ideal.div (entR pd) c8192)

/-! ## The kernel's terms -/

/-- The kernel's adjacency entry. -/
def posK (a : EReal) : EReal :=
  FloatOps.sitofp (F := Ideal) .f32 (BitVec.setWidth 32 (BitVec.ofBool (decide (0 < a))))

/-- A document's topic mass before normalisation; the kernel's array has the topics before the words. -/
def massK (x : Fin 16 → Fin 512 → EReal) (sp : Fin 512 → EReal) (t : Fin 16) : EReal :=
  ∑ v, Ideal.exp (x t v) * Ideal.div (sp v) (∑ u, Ideal.exp (x u v))

/-- The reciprocal of a document's total. -/
def recK (sp : Fin 512 → EReal) : EReal := Ideal.div 1 (∑ v, sp v + eps)

/-- A document's term of the Gaussian likelihood, with the square expanded. -/
def gaussK (x : Fin 16 → Fin 512 → EReal) (sp : Fin 512 → EReal) (pd : Fin 10 → EReal) (el : Fin 10 → Fin 16 → EReal) :
    EReal :=
  (∑ t, massK x sp t * massK x sp t) * recK sp * recK sp
    - two * ((∑ d, sm pd d * ∑ t, massK x sp t * el d t) * recK sp) + ∑ d, sm pd d * ∑ t, el d t * el d t

/-- A partition's smoothness term. -/
def lapK (k : Fin 512 → Fin 512 → EReal) (pd : Fin 512 → Fin 10 → EReal) : EReal :=
  ∑ j, (∑ i, posK (k i j)) * ∑ d, sm (pd j) d * sm (pd j) d
    - ∑ s, ∑ d, sm (pd s) d * ∑ j, posK (k s j) * sm (pd j) d

/-- A partition's cross term. -/
def crossK (k : Fin 512 → Fin 512 → EReal) (pp pd : Fin 512 → Fin 10 → EReal) : EReal :=
  ∑ s, ∑ d, sm (pd s) d
    * Ideal.log (Ideal.div (∑ j, Ideal.exp (k s j) * pp j d) (∑ j, Ideal.exp (k s j)) + eps)

/-- A partition's sum of the probabilities times their logarithms. -/
def plogK (pd : Fin 512 → Fin 10 → EReal) : EReal :=
  ∑ s, ∑ d, sm (pd s) d * (pd s d - Ideal.log (∑ e, Ideal.exp (pd s e)))

/-- The kernel's last combination of its four totals. -/
def combine (g f3 f2 ent : EReal) : EReal :=
  (c02 * f3 * cinv + c2000 * g * cinv) - c02 * (f2 * cinv + ent * cinv)

/-- Partition `j` of the four that grid step `t` handles. -/
abbrev quad (t : Fin 4) (j : ℕ) (hj : j < 4) : Fin 16 := ⟨t.val * 4 + j, by omega⟩

/-- The four partitions' terms of grid step `t`, added in the kernel's order from zero. -/
def addFour (f : Fin 16 → EReal) (t : Fin 4) : EReal :=
  (((0 + f (quad t 0 (by decide))) + f (quad t 1 (by decide))) + f (quad t 2 (by decide))) + f (quad t 3 (by decide))

/-- The four partitions' terms of grid step `t`, subtracted in the kernel's order from zero. -/
def subFour (f : Fin 16 → EReal) (t : Fin 4) : EReal :=
  (((0 - f (quad t 0 (by decide))) - f (quad t 1 (by decide))) - f (quad t 2 (by decide))) - f (quad t 3 (by decide))

/-- The kernel's loss: sixteen steps of documents, four steps of partitions. -/
def lossK (el : Fin 10 → Fin 16 → EReal) (pp : Fin 8192 → Fin 10 → EReal) (k : Fin 16 → Fin 512 → Fin 512 → EReal)
    (sp : Fin 8192 → Fin 512 → EReal) (x : Fin 8192 → Fin 512 → Fin 16 → EReal) (pd : Fin 8192 → Fin 10 → EReal) : EReal :=
  combine (∑ p : Fin 16, ∑ i, gaussK (fun t v => x (row p i) v t) (sp (row p i)) (pd (row p i)) el)
    (∑ t, addFour (fun p => lapK (k p) (fun i => pd (row p i))) t)
    (∑ t, addFour (fun p => crossK (k p) (fun i => pp (row p i)) (fun i => pd (row p i))) t)
    (∑ t, subFour (fun p => plogK (fun i => pd (row p i))) t)

end Cert.Loss

end
-- ==== Proof.Maths.lean ====
/- The kernel's terms and the reference's agree where the arrays' entries are real and no document's total is the
   small number's negative. -/
module

public import proofs.«01_k».proof.Proof.Terms

@[expose] public section

noncomputable section

open Idealize.ShloMosaic
open scoped BigOperators

namespace Cert.Loss

/-! ## Re-indexing the documents -/

/-- A sum over the documents is the sum over the partitions of the sums over their places. -/
theorem sum_row {M : Type} [AddCommMonoid M] (f : Fin 8192 → M) : ∑ n, f n = ∑ p : Fin 16, ∑ i : Fin 512, f (row p i) := by
  rw [← Fintype.sum_prod_type']
  refine (Equiv.sum_comp (finProdFinEquiv : Fin 16 × Fin 512 ≃ Fin (16 * 512)) f).symm.trans ?_
  refine Finset.sum_congr rfl fun x _ => congrArg f (Fin.ext ?_)
  show x.2.val + 512 * x.1.val = x.1.val * 512 + x.2.val
  omega

/-- Document `i` of partition `p` lies in partition `p`. -/
theorem part_row (p : Fin 16) (i : Fin 512) : part (row p i) = p := Fin.ext (by show (p.val * 512 + i.val) / 512 = p.val; omega)

/-- Document `i` of partition `p` has place `i`. -/
theorem place_row (p : Fin 16) (i : Fin 512) : place (row p i) = i := Fin.ext (by show (p.val * 512 + i.val) % 512 = i.val; omega)

/-- Four steps of four partitions each are the sixteen partitions. -/
theorem sum_addFour (f : Fin 16 → EReal) : ∑ t, addFour f t = ∑ p, f p := by
  simp only [addFour, zero_add]
  have h : ∑ p, f p = ∑ t : Fin 4, ∑ j : Fin 4, f (quad t j.val j.isLt) := by
    rw [← Fintype.sum_prod_type']
    refine (Equiv.sum_comp (finProdFinEquiv : Fin 4 × Fin 4 ≃ Fin (4 * 4)) f).symm.trans ?_
    refine Finset.sum_congr rfl fun x _ => congrArg f (Fin.ext ?_)
    show x.2.val + 4 * x.1.val = x.1.val * 4 + x.2.val
    omega
  rw [h]
  refine Finset.sum_congr rfl fun t _ => ?_
  rw [Fin.sum_univ_four]
  rfl

/-- Subtracting four reals in turn from zero is adding their negatives. -/
theorem subFour_coe (f : Fin 16 → ℝ) (t : Fin 4) :
    subFour (fun p => (f p : EReal)) t = addFour (fun p => ((-f p : ℝ) : EReal)) t := by
  simp only [subFour, addFour, EReal.coe_neg, sub_eq_add_neg]

/-! ## The adjacency -/

/-- The two sides' adjacency entries are equal, at any extended real. -/
theorem pos_eq (a : EReal) : posK a = posR a := by
  unfold posK posR
  by_cases h : 0 < a
  · simp only [h, decide_true]
    show (((BitVec.setWidth 32 (BitVec.ofBool true)).toInt : ℝ) : EReal) = (((BitVec.ofBool true).toNat : ℝ) : EReal)
    rw [show (BitVec.setWidth 32 (BitVec.ofBool true)).toInt = 1 by decide, show (BitVec.ofBool true).toNat = 1 by decide]
    norm_num
  · simp only [h, decide_false]
    show (((BitVec.setWidth 32 (BitVec.ofBool false)).toInt : ℝ) : EReal) = (((BitVec.ofBool false).toNat : ℝ) : EReal)
    norm_num

/-- An adjacency entry is real. -/
theorem posR_real (a : EReal) : ∃ r : ℝ, posR a = r := ⟨_, rfl⟩

/-! ## The smoothness term -/

/-- The kernel's smoothness total is the reference's difference of traces, and is real. -/
theorem lap_eq (k : Fin 16 → Fin 512 → Fin 512 → EReal) (pd : Fin 8192 → Fin 10 → ℝ) :
    ∃ r : ℝ, (∑ p, lapK (k p) fun i d => (pd (row p i) d : EReal)) = r
      ∧ degR k (fun n d => (pd n d : EReal)) - adjR k (fun n d => (pd n d : EReal)) = r := by
  choose a ha using posR_real
  refine ⟨∑ p, (∑ j, (∑ i, a (k p i j)) * ∑ d, smR (pd (row p j)) d * smR (pd (row p j)) d
    - ∑ s, ∑ d, smR (pd (row p s)) d * ∑ j, a (k p s j) * smR (pd (row p j)) d), ?_, ?_⟩
  · simp only [lapK, pos_eq, ha, sm_coe, coe_sum, EReal.coe_sub, EReal.coe_mul]
  · simp only [degR, adjR, ha, smM_coe, ← coe_sum, ← EReal.coe_mul, ← EReal.coe_sub]
    congr 1
    rw [Finset.sum_sub_distrib]
    congr 1
    refine Finset.sum_congr rfl fun p _ => Finset.sum_congr rfl fun i _ => ?_
    rw [Finset.mul_sum]
    exact Finset.sum_congr rfl fun d _ => by ring

/-! ## The entropy -/

/-- The kernel's entropy total is the reference's, and is real. -/
theorem ent_eq (pd : Fin 8192 → Fin 10 → ℝ) :
    ∃ r : ℝ, (∑ t, subFour (fun p => plogK fun i d => (pd (row p i) d : EReal)) t) = r
      ∧ entR (fun n d => (pd n d : EReal)) = r := by
  have hk : ∀ p : Fin 16, (plogK fun i d => (pd (row p i) d : EReal))
      = ((∑ s, ∑ d, smR (pd (row p s)) d * (pd (row p s) d - Real.log (∑ e, Real.exp (pd (row p s) e))) : ℝ) : EReal) := by
    intro p
    simp only [plogK, sm_coe, log_sum_exp_coe, coe_sum, EReal.coe_mul]
  refine ⟨∑ p, -∑ s, ∑ d, smR (pd (row p s)) d * (pd (row p s) d - Real.log (∑ e, Real.exp (pd (row p s) e))), ?_, ?_⟩
  · simp only [hk, subFour_coe, sum_addFour]
    exact (coe_sum _ _).symm
  · unfold entR
    simp only [smM_coe, lsmM_coe, ← coe_sum, ← EReal.coe_mul, ← EReal.coe_neg]
    refine congrArg Real.toEReal ?_
    refine (sum_row _).trans ?_
    exact Finset.sum_congr rfl fun p _ => by rw [Finset.sum_neg_distrib]

/-! ## The cross term -/

/-- A row's weighted mean with the soft-max: the kernel divides once, the reference each weight. -/
theorem mean_eq (k : Fin 512 → ℝ) (w : Fin 512 → EReal) :
    Ideal.div (∑ j, Ideal.exp (k j : EReal) * w j) (∑ j, Ideal.exp (k j : EReal))
      = ∑ j, smM (fun e => (k e : EReal)) j * w j := by
  have hp := sum_exp_pos k 0
  rw [sum_exp_coe, Ideal.div_coe hp.ne', sum_mul_coe _ _ _ (by positivity)]
  refine Finset.sum_congr rfl fun j _ => ?_
  rw [smM_coe, Ideal.exp_coe, mul_right_comm, ← EReal.coe_mul, mul_one_div]
  rfl

/-- The kernel's cross total is the reference's. -/
theorem cross_eq (k : Fin 16 → Fin 512 → Fin 512 → ℝ) (pp : Fin 8192 → Fin 10 → EReal) (pd : Fin 8192 → Fin 10 → ℝ) :
    (∑ p, crossK (fun i j => (k p i j : EReal)) (fun i => pp (row p i)) fun i d => (pd (row p i) d : EReal))
      = crossR (fun p i j => (k p i j : EReal)) pp fun n d => (pd n d : EReal) := by
  unfold crossR
  rw [sum_row]
  refine Finset.sum_congr rfl fun p _ => ?_
  unfold crossK
  refine Finset.sum_congr rfl fun i _ => Finset.sum_congr rfl fun d _ => ?_
  rw [sm_coe, smM_coe, part_row, place_row, mean_eq]

/-! ## The Gaussian likelihood -/

/-- A document's topic mass, on both sides: soft-max weights times the counts. -/
theorem massK_eq (x : Fin 512 → Fin 16 → ℝ) (sp : Fin 512 → EReal) (t : Fin 16) :
    massK (fun t v => (x v t : EReal)) sp t = ∑ v, (smR (x v) t : EReal) * sp v := by
  unfold massK
  refine Finset.sum_congr rfl fun v _ => ?_
  have hp := sum_exp_pos (x v) 0
  rw [sum_exp_coe, Ideal.div_coe hp.ne', Ideal.exp_coe, mul_comm (sp v), ← mul_assoc, ← EReal.coe_mul, mul_one_div]
  rfl

/-- The reference's topic mass, in the real soft-max. -/
theorem massR_eq (x : Fin 512 → Fin 16 → ℝ) (sp : Fin 512 → EReal) (t : Fin 16) :
    massR (fun v t => (x v t : EReal)) sp t = ∑ v, (smR (x v) t : EReal) * sp v := by
  unfold massR
  exact Finset.sum_congr rfl fun v _ => by rw [smM_coe]

/-- The topic masses add up to the counts. -/
theorem sum_mass (x : Fin 512 → Fin 16 → ℝ) (sp : Fin 512 → EReal) :
    ∑ t, ∑ v, (smR (x v) t : EReal) * sp v = ∑ v, sp v := by
  rw [Finset.sum_comm]
  refine Finset.sum_congr rfl fun v _ => ?_
  rw [sum_coe_mul _ _ (smR_nonneg (x v)), smR_sum (x v) 0, EReal.coe_one, one_mul]

/-- The expanded square against the square, in the reals. -/
theorem square_real (u : Fin 16 → ℝ) (p : Fin 10 → ℝ) (el : Fin 10 → Fin 16 → ℝ) (w : ℝ) (hp : ∑ d, p d = 1) :
    (∑ t, u t * u t) * (1 / w) * (1 / w) - 2 * ((∑ d, p d * ∑ t, u t * el d t) * (1 / w))
        + ∑ d, p d * ∑ t, el d t * el d t
      = -∑ d, -p d * ∑ t, (u t / w - el d t) * (u t / w - el d t) := by
  have h : ∀ d, -p d * ∑ t, (u t / w - el d t) * (u t / w - el d t)
      = -(p d * ((∑ t, u t * u t) * (1 / w) * (1 / w))) + 2 * ((p d * ∑ t, u t * el d t) * (1 / w))
        - p d * ∑ t, el d t * el d t := by
    intro d
    have e : ∑ t, (u t / w - el d t) * (u t / w - el d t)
        = (∑ t, u t * u t) * (1 / w) * (1 / w) - 2 * (∑ t, u t * el d t) * (1 / w) + ∑ t, el d t * el d t := by
      rw [Finset.sum_mul, Finset.sum_mul, Finset.mul_sum, Finset.sum_mul, ← Finset.sum_sub_distrib,
        ← Finset.sum_add_distrib]
      exact Finset.sum_congr rfl fun t _ => by ring
    rw [e]
    ring
  rw [Finset.sum_congr rfl fun d _ => h d, Finset.sum_sub_distrib, Finset.sum_add_distrib, Finset.sum_neg_distrib,
    ← Finset.sum_mul, hp, ← Finset.mul_sum, ← Finset.sum_mul]
  ring

/-- A document's term: the kernel's is real and the reference's is its negative. -/
theorem gauss_eq (x : Fin 512 → Fin 16 → ℝ) (sp : Fin 512 → EReal) (pd : Fin 10 → ℝ) (el : Fin 10 → Fin 16 → ℝ)
    (h0 : ∑ v, sp v + eps ≠ 0) :
    ∃ r : ℝ, gaussK (fun t v => (x v t : EReal)) sp (fun d => (pd d : EReal)) (fun d t => (el d t : EReal)) = r
      ∧ gaussR (fun v t => (x v t : EReal)) sp (fun d => (pd d : EReal)) (fun d t => (el d t : EReal))
        = ((-r : ℝ) : EReal) := by
  unfold gaussK gaussR propR recK
  simp only [massK_eq, massR_eq, sum_mass, sm_coe, smM_coe, two_eq]
  obtain ⟨w, hw⟩ | hw : (∃ w : ℝ, ∑ v, sp v + eps = w) ∨ (∑ v, sp v + eps = ⊤ ∨ ∑ v, sp v + eps = ⊥) := by
    induction ∑ v, sp v + eps with
    | bot => exact Or.inr (Or.inr rfl)
    | top => exact Or.inr (Or.inl rfl)
    | coe w => exact Or.inl ⟨w, rfl⟩
  · obtain ⟨⟨D, hD⟩, -⟩ := real_of_add hw
    have hs := fun v => real_of_sum Finset.univ sp D hD v (Finset.mem_univ v)
    choose s hs using hs
    have hw0 : w ≠ 0 := fun e => h0 (by rw [hw, e, EReal.coe_zero])
    refine ⟨-∑ d, -smR pd d * ∑ t, ((∑ v, smR (x v) t * s v) / w - el d t) * ((∑ v, smR (x v) t * s v) / w - el d t),
      ?_, ?_⟩
    rotate_left
    · simp only [hw]
      simp only [hs, ← EReal.coe_mul, ← coe_sum, div_real _ hw0, ← EReal.coe_sub, ← EReal.coe_neg, neg_neg]
    · simp only [hw]
      simp only [hs, ← EReal.coe_mul, ← coe_sum, ← EReal.coe_one, div_real _ hw0, ← EReal.coe_sub, ← EReal.coe_add]
      congr 1
      exact square_real _ _ _ w (smR_sum pd 0)
  · refine ⟨∑ d, smR pd d * ∑ t, el d t * el d t, ?_, ?_⟩
    · simp only [div_inf _ hw, mul_zero, ← EReal.coe_mul, ← coe_sum, sub_zero, zero_add]
    · simp only [div_inf _ hw, ← EReal.coe_zero, ← EReal.coe_mul, ← coe_sum, ← EReal.coe_sub, ← EReal.coe_neg]
      congr 1
      rw [← Finset.sum_neg_distrib]
      refine Finset.sum_congr rfl fun d _ => ?_
      rw [neg_mul]
      congr 2
      exact Finset.sum_congr rfl fun t _ => by ring

/-! ## The loss -/

/-- THE TWO LOSSES AGREE where the scores, the graph kernels, the topic scores and the likelihood's centres are real and
    no document's count plus the small number is zero. -/
theorem loss_eq (el : Fin 10 → Fin 16 → EReal) (pp : Fin 8192 → Fin 10 → EReal) (k : Fin 16 → Fin 512 → Fin 512 → EReal)
    (sp : Fin 8192 → Fin 512 → EReal) (x : Fin 8192 → Fin 512 → Fin 16 → EReal) (pd : Fin 8192 → Fin 10 → EReal)
    (hel : ∀ d t, ∃ r : ℝ, el d t = r) (hk : ∀ p i j, ∃ r : ℝ, k p i j = r) (hx : ∀ n v t, ∃ r : ℝ, x n v t = r)
    (hpd : ∀ n d, ∃ r : ℝ, pd n d = r) (hsp : ∀ n, ∑ v, sp n v + eps ≠ 0) :
    lossK el pp k sp x pd = lossR el pp k sp x pd := by
  choose el' hel using hel
  choose k' hk using hk
  choose x' hx using hx
  choose pd' hpd using hpd
  obtain rfl : el = fun d t => (el' d t : EReal) := funext fun d => funext fun t => hel d t
  obtain rfl : k = fun p i j => (k' p i j : EReal) := funext fun p => funext fun i => funext fun j => hk p i j
  obtain rfl : x = fun n v t => (x' n v t : EReal) := funext fun n => funext fun v => funext fun t => hx n v t
  obtain rfl : pd = fun n d => (pd' n d : EReal) := funext fun n => funext fun d => hpd n d
  clear hel hk hx hpd
  obtain ⟨f, hf1, hf2⟩ := lap_eq (fun p i j => (k' p i j : EReal)) pd'
  obtain ⟨e, he1, he2⟩ := ent_eq pd'
  have hg := fun n => gauss_eq (x' n) (sp n) (pd' n) el' (hsp n)
  choose g hg1 hg2 using hg
  obtain ⟨a, ha⟩ := c02_real
  obtain ⟨b, hb⟩ := c2000_real
  unfold lossK lossR combine
  simp only [sum_addFour, hf1, hf2, he1, he2, hg1, hg2, cross_eq, ha, hb, div_c8192]
  rw [sum_row fun n => ((-g n : ℝ) : EReal)]
  simp only [← coe_sum, Finset.sum_neg_distrib, cinv_eq, ← EReal.coe_mul, ← EReal.coe_sub, ← EReal.coe_add]
  ring_nf

end Cert.Loss

end
-- ==== Proof.RefValue.lean ====
/- The reference's stages read at an index: its loss is `Loss.lossR` of the arrays' entries. -/
module

public import proofs.«01_k».proof.Proof.Gen.ReferenceIdeal.Read
public import proofs.«01_k».proof.Proof.Terms
public import Idealize.ShloMosaic.Lib.Pointwise

@[expose] public section

set_option maxRecDepth 16384

noncomputable section

open Idealize.ShloMosaic Cert.Loss

namespace Cert.ReferenceIdeal.Point

open Cert.ReferenceIdeal Cert.ReferenceIdeal.Read Cert.ReferenceIdeal.Gen

/-- The soft-max of the domain scores. -/
theorem v10_at (x : Vec Ideal S8192x10 .f32) (n : Fin 8192) (d : Fin 10) :
    val_main_v10 (F := Ideal) x (ix2 n d) = smM (fun j => x (ix2 n j)) d := by
  pointwise [val_main_v10, val_main_v9, val_main_v8, val_main_v7, val_main_v6, val_main_v5, val_main_v4, val_main_v3,
    val_main_v2, val_main_v1, val_main_v0, val_main_cst_0, val_main_cst_1, val_main_cst]
  rfl

/-- The log-soft-max of the domain scores. -/
theorem v11_at (x : Vec Ideal S8192x10 .f32) (n : Fin 8192) (d : Fin 10) :
    val_main_v11 (F := Ideal) x (ix2 n d) = lsmM (fun j => x (ix2 n j)) d := by
  pointwise [val_main_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_cst_0, val_main_call0_cst_1, val_main_call0_cst]
  rfl

/-- The entropy's total. -/
theorem v15_at (x : Vec Ideal S8192x10 .f32) :
    val_main_v15 (F := Ideal) x ix0 = entR fun n d => x (ix2 n d) := by
  pointwise [val_main_v15, val_main_v14, val_main_v13, val_main_v12, val_main_cst_2, val_main_cst_3]
  simp only [v10_at, v11_at]
  rfl

/-- The trace with the degrees. -/
theorem v26_at (x : Vec Ideal S8192x10 .f32) (k : Vec Ideal S16x512x512 .f32) :
    val_main_v26 (F := Ideal) k x ix0 = degR (fun p i j => k (ix3 p i j)) fun n d => x (ix2 n d) := by
  pointwise [val_main_v26, val_main_v25, val_main_v24, val_main_v23, val_main_v22, val_main_v21, val_main_v20,
    val_main_v19, val_main_v18, val_main_v17, val_main_cst_5, val_main_cst_6, val_main_cst_7]
  simp only [v10_at]
  rfl

/-- The trace with the adjacency. -/
theorem v29_at (x : Vec Ideal S8192x10 .f32) (k : Vec Ideal S16x512x512 .f32) :
    val_main_v29 (F := Ideal) k x ix0 = adjR (fun p i j => k (ix3 p i j)) fun n d => x (ix2 n d) := by
  pointwise [val_main_v29, val_main_v28, val_main_v27, val_main_v21, val_main_v20, val_main_v19, val_main_v18,
    val_main_v17, val_main_cst_5, val_main_cst_8]
  simp only [v10_at]
  rfl

/-- The maximum over the topics. -/
theorem v34_at (x : Vec Ideal S8192x512x16 .f32) (n : Fin 8192) (v : Fin 512) :
    val_main_v34 (F := Ideal) x (ix2 n v) = mx fun j => x (ix3 n v j) := by
  rw [val_main_v34_apply]
  have h : val_main_v32 (F := Ideal) x (ix2 n v) = Finset.fold max mx0 (fun j => x (ix3 n v j)) Finset.univ := by
    unfold val_main_v32
    rw [Host.reduce_eq_fold]
    refine (Shape.ReducesTo.fold_fiber_r3_a2 (n0 := 8192) (n1 := 512) (n2 := 16) (t := S8192x512)
      reducesTo_S8192x512x16_S8192x512_d2 (ix2 n v) _ _ x).trans ?_
    rfl
  rw [h]
  rfl

/-- The soft-max over the topics. -/
theorem v42_at (x : Vec Ideal S8192x512x16 .f32) (n : Fin 8192) (v : Fin 512) (t : Fin 16) :
    val_main_v42 (F := Ideal) x (ix3 n v t) = smM (fun j => x (ix3 n v j)) t := by
  pointwise [val_main_v42, val_main_v41, val_main_v40, val_main_v39, val_main_v38, val_main_v37, val_main_v36,
    val_main_v35, val_main_cst_12]
  simp only [v34_at]
  rfl

/-- The maximum over a graph kernel's row. -/
theorem v70_at (x : Vec Ideal S16x512x512 .f32) (p : Fin 16) (i : Fin 512) :
    val_main_v70 (F := Ideal) x (ix2 p i) = mx fun j => x (ix3 p i j) := by
  rw [val_main_v70_apply]
  have h : val_main_v68 (F := Ideal) x (ix2 p i) = Finset.fold max mx0 (fun j => x (ix3 p i j)) Finset.univ := by
    unfold val_main_v68
    rw [Host.reduce_eq_fold]
    refine (Shape.ReducesTo.fold_fiber_r3_a2 (n0 := 16) (n1 := 512) (n2 := 512) (t := S16x512)
      reducesTo_S16x512x512_S16x512_d2 (ix2 p i) _ _ x).trans ?_
    rfl
  rw [h]
  rfl

/-- The soft-max over a graph kernel's row. -/
theorem v78_at (x : Vec Ideal S16x512x512 .f32) (p : Fin 16) (i j : Fin 512) :
    val_main_v78 (F := Ideal) x (ix3 p i j) = smM (fun e => x (ix3 p i e)) j := by
  pointwise [val_main_v78, val_main_v77, val_main_v76, val_main_v75, val_main_v74, val_main_v73, val_main_v72,
    val_main_v71, val_main_cst_23]
  simp only [v70_at]
  rfl

/-- A document's topic proportions. -/
theorem v55_at (x : Vec Ideal S8192x512x16 .f32) (s : Vec Ideal S8192x512 .f32) (n : Fin 8192) (t : Fin 16) :
    val_main_v55 (F := Ideal) s x (ix2 n t) = propR (fun v t => x (ix3 n v t)) (fun v => s (ix2 n v)) t := by
  pointwise [val_main_v55, val_main_v54, val_main_v53, val_main_v52, val_main_v51, val_main_v50, val_main_v49,
    val_main_v48, val_main_v47, val_main_v46, val_main_v45, val_main_v44, val_main_v43, val_main_cst_13,
    val_main_cst_14, val_main_cst_15, val_main_cst_16]
  simp only [v42_at, Finset.univ_unique, Finset.sum_singleton]
  rfl

/-- The Gaussian likelihood's total. -/
theorem v66_at (e : Vec Ideal S10x16 .f32) (d : Vec Ideal S8192x10 .f32) (x : Vec Ideal S8192x512x16 .f32)
    (s : Vec Ideal S8192x512 .f32) :
    val_main_v66 (F := Ideal) e s x d ix0
      = ∑ n : Fin 8192, gaussR (fun v t => x (ix3 n v t)) (fun v => s (ix2 n v)) (fun j => d (ix2 n j))
          fun i t => e (ix2 i t) := by
  pointwise [val_main_v66, val_main_v65, val_main_v64, val_main_v63, val_main_v62, val_main_v61, val_main_v60,
    val_main_v59, val_main_v58, val_main_v57, val_main_v56, val_main_cst_19, val_main_cst_18, val_main_cst_17]
  simp only [v10_at, v55_at]
  rfl

/-- The cross term's total. -/
theorem v87_at (e : Vec Ideal S8192x10 .f32) (d : Vec Ideal S8192x10 .f32) (x : Vec Ideal S16x512x512 .f32) :
    val_main_v87 (F := Ideal) e x d ix0
      = crossR (fun p i j => x (ix3 p i j)) (fun n j => e (ix2 n j)) fun n j => d (ix2 n j) := by
  pointwise [val_main_v87, val_main_v86, val_main_v85, val_main_v84, val_main_v83, val_main_v82, val_main_v81,
    val_main_v80, val_main_v79, val_main_cst_26, val_main_cst_25, val_main_cst_24]
  simp only [v10_at, v78_at]
  rfl

/-- The last combination. -/
theorem v94_at (x0 : Vec Ideal S10x16 .f32) (x1 : Vec Ideal S8192x10 .f32) (x2 : Vec Ideal S16x512x512 .f32)
    (x3 : Vec Ideal S8192x512 .f32) (x4 : Vec Ideal S8192x512x16 .f32) (x5 : Vec Ideal S8192x10 .f32) :
    val_main_v94 (F := Ideal) x0 x1 x2 x3 x4 x5 ix0 =
      (c02 * Ideal.div (val_main_v26 (F := Ideal) x2 x5 ix0 - val_main_v29 (F := Ideal) x2 x5 ix0) c8192
        - c2000 * Ideal.div (val_main_v66 (F := Ideal) x0 x3 x4 x5 ix0) c8192)
      - c02 * (Ideal.div (val_main_v87 (F := Ideal) x1 x2 x5 ix0) c8192
        + Ideal.div (val_main_v15 (F := Ideal) x5 ix0) c8192) := by
  rw [val_main_v94_apply, val_main_v93_apply, val_main_v92_apply, val_main_v91_apply, val_main_v90_apply,
    val_main_v89_apply, val_main_v88_apply, val_main_v67_apply, val_main_v31_apply, val_main_v30_apply,
    val_main_v16_apply]
  rfl

/-- The reference's result is `lossR` of its arguments' entries. -/
theorem v95_at (x0 : Vec Ideal S10x16 .f32) (x1 : Vec Ideal S8192x10 .f32) (x2 : Vec Ideal S16x512x512 .f32)
    (x3 : Vec Ideal S8192x512 .f32) (x4 : Vec Ideal S8192x512x16 .f32) (x5 : Vec Ideal S8192x10 .f32) :
    val_main_v95 (F := Ideal) x0 x1 x2 x3 x4 x5 (ix2 0 0) =
      lossR (fun d t => x0 (ix2 d t)) (fun n d => x1 (ix2 n d)) (fun p i j => x2 (ix3 p i j))
        (fun n v => x3 (ix2 n v)) (fun n v t => x4 (ix3 n v t)) fun n d => x5 (ix2 n d) := by
  have h : val_main_v95 (F := Ideal) x0 x1 x2 x3 x4 x5 (ix2 0 0)
      = val_main_v94 (F := Ideal) x0 x1 x2 x3 x4 x5 ix0 := by
    pointwise [val_main_v95]
  rw [h, v94_at, v26_at, v29_at, v66_at, v87_at, v15_at]
  rfl

end Cert.ReferenceIdeal.Point

end
-- ==== Proof.PreFacts.lean ====
/- What the precondition says of the arrays' entries. -/
module

public import proofs.«01_k».proof.Proof.Gen.Pre_in_domain
public import proofs.«01_k».proof.Proof.Reals
public import Idealize.ShloMosaic.Lib.ReduceAll
public import Idealize.ShloMosaic.Lib.Pointwise

@[expose] public section

noncomputable section

open Idealize.ShloMosaic
open Cert.Pre_in_domain Cert.Pre_in_domain.Gen
open scoped BigOperators

namespace Cert.Loss

attribute [local instance] Cert.Pre_in_domain.Gen.facts

/-- Infinity, as a 32-bit pattern. -/
theorem top_eq : (FloatOps.ofBits (F := Ideal) .f32 0x7F800000#32 : EReal) = ⊤ := by
  show Ideal.ofBits .f32 0x7F800000#32 = ⊤
  simp [Ideal.ofBits, Ideal.ieee]

/-- A value whose magnitude is below infinity is real. -/
theorem real_of_abs (a : EReal) (h : FloatOps.cmpf (F := Ideal) (φ := .f32) .olt (FloatOps.hostAbsf (F := Ideal) (φ := .f32) a)
    (FloatOps.ofBits (F := Ideal) .f32 0x7F800000#32) = 1#1) : ∃ r : ℝ, a = r := by
  rw [top_eq] at h
  have h' : BitVec.ofBool (decide (max a (-a) < ⊤)) = 1#1 := h
  by_cases hl : max a (-a) < ⊤
  · induction a with
    | bot => simp at hl
    | top => simp at hl
    | coe r => exact ⟨r, rfl⟩
  · rw [decide_eq_false hl] at h'
    exact absurd h' (by decide)

/-- A value that compares different from zero is not zero. -/
theorem ne_of_une (a : EReal) (h : FloatOps.cmpf (F := Ideal) (φ := .f32) .une a
    (FloatOps.ofBits (F := Ideal) .f32 0x00000000#32) = 1#1) : a ≠ 0 := by
  rintro rfl
  have h' : BitVec.ofBool (decide ((0 : EReal) ≠ Ideal.ofBits .f32 0x00000000#32)) = 1#1 := h
  rw [show Ideal.ofBits .f32 0x00000000#32 = (0 : EReal) by simp [Ideal.ofBits, Ideal.ieee]] at h'
  simp at h'

variable (x0 : FVec Ideal S10x16 .f32) (x1 : FVec Ideal S8192x10 .f32) (x2 : FVec Ideal S16x512x512 .f32)
  (x3 : FVec Ideal S8192x512 .f32) (x4 : FVec Ideal S8192x512x16 .f32) (x5 : FVec Ideal S8192x10 .f32) (x6 : IVec S16x2 32)

/-- THE PRECONDITION READ: four arrays have real entries and no document's count plus the small number is zero. -/
theorem pre_read (h : Cert.Pre_in_domain.fn (F := Ideal) x0 x1 x2 x3 x4 x5 x6 = fun _ => 1#1) :
    (∀ d t, ∃ r : ℝ, x0 (ix2 d t) = r) ∧ (∀ p i j, ∃ r : ℝ, x2 (ix3 p i j) = r)
      ∧ (∀ n v t, ∃ r : ℝ, x4 (ix3 n v t) = r) ∧ (∀ n d, ∃ r : ℝ, x5 (ix2 n d) = r)
      ∧ ∀ n, ∑ v, x3 (ix2 n v) + eps ≠ 0 := by
  haveI : Subsingleton S_.Idx := ⟨fun a b => funext fun i => i.elim0⟩
  have e := congrFun h ix0
  unfold Cert.Pre_in_domain.fn Cert.Pre_in_domain.fn_part1 at e
  dsimp only at e
  obtain ⟨e, hs⟩ := IntOp.andi_eq_one.1 e
  obtain ⟨e, h5⟩ := IntOp.andi_eq_one.1 e
  obtain ⟨e, h4⟩ := IntOp.andi_eq_one.1 e
  obtain ⟨h0, h2⟩ := IntOp.andi_eq_one.1 e
  refine ⟨fun d t => ?_, fun p i j => ?_, fun n v t => ?_, fun n d => ?_, fun n => ?_⟩
  · exact real_of_abs _ (Host.reduce_andi_all _ _ _ _ _ h0 (ix2 d t))
  · exact real_of_abs _ (Host.reduce_andi_all _ _ _ _ _ h2 (ix3 p i j))
  · exact real_of_abs _ (Host.reduce_andi_all _ _ _ _ _ h4 (ix3 n v t))
  · exact real_of_abs _ (Host.reduce_andi_all _ _ _ _ _ h5 (ix2 n d))
  · have hn := Host.reduce_andi_all _ _ _ _ _ hs (ix1 n)
    have hn' := ne_of_une _ hn
    pointwise at hn'
    exact hn'

end Cert.Loss

end
-- ==== Proof.KerBlocks.lean ====
/- The input blocks of a grid step, read as entries of the argument arrays. -/
module

public import proofs.«01_k».proof.Proof.Terms
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen
open scoped BigOperators

namespace Cert.Loss

variable (m : (ℓ : Loc nD τ sig) → Buf (Elt Ideal) ℓ) (c : Dev nD) (t : Fin cfg0.N)

/-- The document windows' block indices at the first sixteen steps. -/
theorem idxDoc : ∀ t : Fin cfg0.N, t.val < 16 → win0_0.index t = ![t.val, 0, 0] ∧ win0_1.index t = ![t.val, 0]
    ∧ win0_2.index t = ![t.val, 0] :=
  (by decide +kernel : ∀ t : Fin grid0.N, _)

/-- The whole small array's window stays at its one block. -/
theorem idxAll : ∀ t : Fin cfg0.N, win0_3.index t = ![0, 0] :=
  (by decide +kernel : ∀ t : Fin grid0.N, _)

/-- The partition windows' block indices at the last four steps. -/
theorem idxPart : ∀ t : Fin cfg0.N, 16 ≤ t.val → win0_4.index t = ![t.val - 16, 0, 0] ∧ win0_5.index t = ![t.val - 16, 0]
    ∧ win0_6.index t = ![t.val - 16, 0] :=
  (by decide +kernel : ∀ t : Fin grid0.N, _)

/-- The transposed topic scores at an index. -/
theorem V_main_v0 (n : Fin 8192) (k : Fin 16) (v : Fin 512) :
    V m c main_v0 (ix3 n k v) = m ((c : Thread nD τ).loc main_arg4) (ix3 n v k) := by
  have h : V m c main_v0 = transpose S8192x16x512 [0, 2, 1] (m ((c : Thread nD τ).loc main_arg4))
      transposes_S8192x512x16_S8192x16x512_0_2_1 := by
    show StableHlo.after hostOps0 _ _ = _
    rfl
  rw [h]
  pointwise []

/-- The topic scores' block. -/
theorem blk0 (ht : t.val < 16) (i : Fin 512) (k : Fin 16) (v : Fin 512) :
    iblk m c 0 t (ix3 i k v) = m ((c : Thread nD τ).loc main_arg4) (ix3 (row ⟨t.val, ht⟩ i) v k) := by
  rw [← V_main_v0 m c]
  have h := (idxDoc t ht).1
  blk_ext [iblk, h, row]

/-- The counts' block. -/
theorem blk1 (ht : t.val < 16) (i v : Fin 512) :
    iblk m c 1 t (ix2 i v) = m ((c : Thread nD τ).loc main_arg3) (ix2 (row ⟨t.val, ht⟩ i) v) := by
  rw [← V_main_arg3 m c]
  have h := (idxDoc t ht).2.1
  blk_ext [iblk, h, row]

/-- The domain scores' block in a document step. -/
theorem blk2 (ht : t.val < 16) (i : Fin 512) (d : Fin 10) :
    iblk m c 2 t (ix2 i d) = m ((c : Thread nD τ).loc main_arg5) (ix2 (row ⟨t.val, ht⟩ i) d) := by
  rw [← V_main_arg5 m c]
  have h := (idxDoc t ht).2.2
  blk_ext [iblk, h, row]

/-- The centres' block. -/
theorem blk3 (d : Fin 10) (k : Fin 16) : iblk m c 3 t (ix2 d k) = m ((c : Thread nD τ).loc main_arg0) (ix2 d k) := by
  rw [← V_main_arg0 m c]
  have h := idxAll t
  blk_ext [iblk, h]

/-- A grid step past the document steps, as the partition step it is. -/
abbrev late (t : Fin cfg0.N) (_ : 16 ≤ t.val) : Fin 4 := ⟨t.val - 16, by have : t.val < 20 := t.isLt; omega⟩

/-- One graph kernel of the four in a partition step's block. -/
theorem blk4 (ht : 16 ≤ t.val) (j : ℕ) (hj : j < 4) (inb) (a b : Fin 512) :
    View.ld (iblk m c 4 t) (Rect.unit (s := S4x512x512) ![j, 0, 0] ![1, 512, 512] inb) (ix3 0 a b)
      = m ((c : Thread nD τ).loc main_arg2) (ix3 (quad (late t ht) j hj) a b) := by
  rw [← V_main_arg2 m c]
  have h := (idxPart t ht).1
  blk_ext [iblk, h, View.ld]
  · have e := Rect.idx_unit_val (s := S4x512x512) ![j, 0, 0] ![1, 512, 512] inb (ix3 0 a b) 0
    exact congrArg _ e
  · exact (Rect.idx_unit_val (s := S4x512x512) ![j, 0, 0] ![1, 512, 512] inb (ix3 0 a b) 1).trans (Nat.zero_add _)
  · exact (Rect.idx_unit_val (s := S4x512x512) ![j, 0, 0] ![1, 512, 512] inb (ix3 0 a b) 2).trans (Nat.zero_add _)

/-- One partition's prior rows in a partition step's block. -/
theorem blk5 (ht : 16 ≤ t.val) (j : ℕ) (hj : j < 4) (inb) (a : Fin 512) (d : Fin 10) :
    View.ld (iblk m c 5 t) (Rect.unit (s := S2048x10) ![512 * j, 0] ![512, 10] inb) (ix2 a d)
      = m ((c : Thread nD τ).loc main_arg1) (ix2 (row (quad (late t ht) j hj) a) d) := by
  rw [← V_main_arg1 m c]
  have h := (idxPart t ht).2.1
  blk_ext [iblk, h, View.ld, row]
  · have e : ((Rect.unit (s := S2048x10) ![512 * j, 0] ![512, 10] inb).idx (ix2 a d) 0 : ℕ) = 512 * j + a.val :=
      Rect.idx_unit_val (s := S2048x10) ![512 * j, 0] ![512, 10] inb (ix2 a d) 0
    omega
  · exact (Rect.idx_unit_val (s := S2048x10) ![512 * j, 0] ![512, 10] inb (ix2 a d) 1).trans (Nat.zero_add _)

/-- One partition's domain scores in a partition step's block. -/
theorem blk6 (ht : 16 ≤ t.val) (j : ℕ) (hj : j < 4) (inb) (a : Fin 512) (d : Fin 10) :
    View.ld (iblk m c 6 t) (Rect.unit (s := S2048x10) ![512 * j, 0] ![512, 10] inb) (ix2 a d)
      = m ((c : Thread nD τ).loc main_arg5) (ix2 (row (quad (late t ht) j hj) a) d) := by
  rw [← V_main_arg5 m c]
  have h := (idxPart t ht).2.2
  blk_ext [iblk, h, View.ld, row]
  · have e : ((Rect.unit (s := S2048x10) ![512 * j, 0] ![512, 10] inb).idx (ix2 a d) 0 : ℕ) = 512 * j + a.val :=
      Rect.idx_unit_val (s := S2048x10) ![512 * j, 0] ![512, 10] inb (ix2 a d) 0
    omega
  · exact (Rect.idx_unit_val (s := S2048x10) ![512 * j, 0] ![512, 10] inb (ix2 a d) 1).trans (Nat.zero_add _)

end Cert.Loss

end
-- ==== Proof.KerPoint.lean ====
/- The kernel's payloads read at an index: what one grid step adds to the scratch row, and what the last one writes. -/
module

public import proofs.«01_k».proof.Proof.Terms
public import proofs.«01_k».proof.Proof.Gen.KernelIdeal.Frame
public import Idealize.ShloMosaic.Lib.Pointwise

@[expose] public section

set_option maxRecDepth 16384

noncomputable section

open Idealize.ShloMosaic Idealize.ShloMosaic.TcCoe
open Cert.KernelIdeal Cert.KernelIdeal.Gen
open scoped BigOperators

namespace Cert.Loss

/-! ## The partitions' terms -/

/-- The first partition's entropy step. -/
theorem pay16_eq (w : Vec Ideal S512x10 .f32) :
    k0_pay16 (F := Ideal) w = (0 - plogK fun s d => w (ix2 s d) : EReal) := by
  pointwise [k0_pay16, k0_pay15, k0_pay14, k0_pay13]
  rfl

/-- The second partition's entropy step. -/
theorem pay25_eq (a : EReal) (w : Vec Ideal S512x10 .f32) :
    k0_pay25 (F := Ideal) a w = (a - plogK fun s d => w (ix2 s d) : EReal) := by
  pointwise [k0_pay25, k0_pay24, k0_pay23, k0_pay22]
  rfl

/-- The third partition's entropy step. -/
theorem pay36_eq (a : EReal) (w : Vec Ideal S512x10 .f32) :
    k0_pay36 (F := Ideal) a w = (a - plogK fun s d => w (ix2 s d) : EReal) := by
  pointwise [k0_pay36, k0_pay35, k0_pay34, k0_pay33]
  rfl

/-- The fourth partition's entropy step. -/
theorem pay45_eq (a : EReal) (w : Vec Ideal S512x10 .f32) :
    k0_pay45 (F := Ideal) a w (k0_pay41 w) (k0_pay42 w) (k0_pay43 w) = (a - plogK fun s d => w (ix2 s d) : EReal) := by
  pointwise [k0_pay45, k0_pay44, k0_pay43, k0_pay42, k0_pay41]
  rfl

/-- The first partition's cross term. -/
theorem pay19_eq (k : Vec Ideal S1x512x512 .f32) (u w : Vec Ideal S512x10 .f32) :
    k0_pay19 (F := Ideal) (k0_pay12 k u) (k0_pay15 w)
      = (0 + crossK (fun i j => k (ix3 0 i j)) (fun i d => u (ix2 i d)) fun i d => w (ix2 i d) : EReal) := by
  rw [zero_add]
  pointwise [k0_pay19, k0_pay12, k0_pay15, k0_pay14, k0_pay13, k0_pay11]
  rfl

/-- The second partition's cross term, added to what came before. -/
theorem pay30_eq (a : EReal) (k : Vec Ideal S1x512x512 .f32) (u w : Vec Ideal S512x10 .f32) :
    k0_pay30 (F := Ideal) a (k0_pay21 k u) (k0_pay24 w)
      = (a + crossK (fun i j => k (ix3 0 i j)) (fun i d => u (ix2 i d)) fun i d => w (ix2 i d) : EReal) := by
  pointwise [k0_pay30, k0_pay21, k0_pay24, k0_pay23, k0_pay22, k0_pay20]
  rfl

/-- The third partition's cross term, added to what came before. -/
theorem pay38_eq (a : EReal) (k : Vec Ideal S1x512x512 .f32) (u w : Vec Ideal S512x10 .f32) :
    k0_pay38 (F := Ideal) a (k0_pay32 k u) (k0_pay35 w)
      = (a + crossK (fun i j => k (ix3 0 i j)) (fun i d => u (ix2 i d)) fun i d => w (ix2 i d) : EReal) := by
  pointwise [k0_pay38, k0_pay32, k0_pay35, k0_pay34, k0_pay33, k0_pay31]
  rfl

/-- The fourth partition's cross term, added to what came before. -/
theorem pay46_eq (a : EReal) (k : Vec Ideal S1x512x512 .f32) (u w : Vec Ideal S512x10 .f32) :
    k0_pay46 (F := Ideal) a (k0_pay40 k u) (k0_pay41 w) (k0_pay43 w)
      = (a + crossK (fun i j => k (ix3 0 i j)) (fun i d => u (ix2 i d)) fun i d => w (ix2 i d) : EReal) := by
  pointwise [k0_pay46, k0_pay40, k0_pay44, k0_pay43, k0_pay42, k0_pay41, k0_pay39]
  rfl

/-- A partition's smoothness term. -/
theorem pay17_eq (k : Vec Ideal S1x512x512 .f32) (w : Vec Ideal S512x10 .f32) :
    k0_pay17 (F := Ideal) k w = (lapK (fun i j => k (ix3 0 i j)) fun i d => w (ix2 i d) : EReal) := by
  pointwise [k0_pay17, k0_pay15, k0_pay14, k0_pay13, k0_pay11]
  rfl

/-- The first partition's smoothness term, added to zero. -/
theorem pay18_eq (a : EReal) : k0_pay18 (F := Ideal) a = (0 + a : EReal) := by
  rw [zero_add]
  pointwise [k0_pay18]

/-- The second partition's smoothness term, added to what came before. -/
theorem pay29_eq (a : EReal) (k : Vec Ideal S1x512x512 .f32) (w : Vec Ideal S512x10 .f32) :
    k0_pay29 (F := Ideal) a (k0_pay24 w) (k0_pay26 k) (k0_pay27 k) (k0_pay28 w)
      = (a + lapK (fun i j => k (ix3 0 i j)) fun i d => w (ix2 i d) : EReal) := by
  rw [← pay17_eq]
  rfl

/-- The third partition's smoothness term, added to what came before. -/
theorem pay37_eq (a : EReal) (k : Vec Ideal S1x512x512 .f32) (w : Vec Ideal S512x10 .f32) :
    k0_pay37 (F := Ideal) a (k0_pay31 k) (k0_pay35 w)
      = (a + lapK (fun i j => k (ix3 0 i j)) fun i d => w (ix2 i d) : EReal) := by
  rw [← pay17_eq]
  rfl

/-! ## The scratch row -/

/-- The scratch row starts at zero. -/
theorem pay1_at (l : Fin 128) : k0_pay1 (F := Ideal) (ix2 0 l) = (0 : EReal) := by
  pointwise [k0_pay1]

/-- The value `a` in lane `n`, zero in the others. -/
def lane (n : ℕ) (a : EReal) (l : Fin 128) : EReal := if l.val = n then a else 0

/-- A lane's number compared with a small word. -/
theorem select_lane (n : ℕ) (hn : n < 128) (a : EReal) (l : Fin 128) :
    Scalar.select (IntOp.cmpi .eq (BitVec.ofNat 32 l.val) (BitVec.ofNat 32 n)) a 0 = lane n a l := by
  unfold lane
  by_cases h : l.val = n
  · simp [h, Scalar.select, IntOp.cmpi]
  · have : BitVec.ofNat 32 l.val ≠ BitVec.ofNat 32 n := by
      intro e
      have := congrArg BitVec.toNat e
      simp only [BitVec.toNat_ofNat] at this
      omega
    have hb : (BitVec.ofNat 32 l.val == BitVec.ofNat 32 n) = false := beq_false_of_ne this
    simp [h, hb, Scalar.select, IntOp.cmpi]

/-- The scratch row after a document step. -/
theorem pay2_at (x : Vec Ideal S512x16x512 .f32) (s : Vec Ideal S512x512 .f32) (e : Vec Ideal S10x16 .f32)
    (w : Vec Ideal S512x10 .f32) (acc : Vec Ideal S1x128 .f32) (l : Fin 128) :
    k0_pay2 (F := Ideal) (k0_pay6 s) (k0_pay8 x s e w) (k0_pay9 e w) (k0_pay10 x s) acc (ix2 0 l)
      = acc (ix2 0 l) + lane 0 (∑ i : Fin 512, gaussK (fun t v => x (ix3 i t v)) (fun v => s (ix2 i v))
          (fun d => w (ix2 i d)) fun d t => e (ix2 d t)) l := by
  rw [← select_lane 0 (by decide)]
  pointwise [k0_pay2, k0_pay6, k0_pay8, k0_pay9, k0_pay10, k0_pay5, k0_pay7]
  simp only [Finset.univ_unique, Finset.sum_singleton]
  rfl

/-- The smoothness lane of a partition step. -/
theorem pay47_at (a : EReal) (k : Vec Ideal S1x512x512 .f32) (w : Vec Ideal S512x10 .f32) (l : Fin 128) :
    k0_pay47 (F := Ideal) (iota .tc S1x128 32 [1] iota_S1x128_d1_w32) a (k0_pay39 k) (k0_pay41 w) (k0_pay43 w) (ix2 0 l)
      = lane 1 (a + lapK (fun i j => k (ix3 0 i j)) fun i d => w (ix2 i d)) l := by
  rw [← select_lane 1 (by decide)]
  have h : k0_pay47 (F := Ideal) (iota .tc S1x128 32 [1] iota_S1x128_d1_w32) a (k0_pay39 k) (k0_pay41 w) (k0_pay43 w)
      = select (cmpi .eq (iota .tc S1x128 32 [1] iota_S1x128_d1_w32) (broadcast S1x128 1#32))
          (broadcast S1x128 (Scalar.addf (F := Ideal) a (k0_pay17 k w))) (broadcast S1x128 (Scalar.ofBits .f32 0x00000000#32)) := rfl
  rw [h, pay17_eq]
  pointwise []

/-- The scratch row after a partition step. -/
theorem pay3_at (a b : EReal) (acc f : Vec Ideal S1x128 .f32) (l : Fin 128) :
    k0_pay3 (F := Ideal) a b acc f (k0_pay48 (iota .tc S1x128 32 [1] iota_S1x128_d1_w32)) (ix2 0 l)
      = acc (ix2 0 l) + (f (ix2 0 l) + lane 2 b l + lane 3 a l) := by
  rw [← select_lane 2 (by decide), ← select_lane 3 (by decide)]
  pointwise [k0_pay3, k0_pay48]

/-! ## The last combination -/

/-- A lane picked out by its number. -/
theorem pick_lane (n : Fin 128) (v : Fin 128 → EReal) :
    ∑ l : Fin 128, Scalar.select (IntOp.cmpi .eq (BitVec.ofNat 32 l.val) (BitVec.ofNat 32 n.val)) (v l) 0 = v n := by
  simp only [select_lane n.val n.isLt, lane]
  rw [Finset.sum_eq_single n]
  · simp
  · intro b _ hb
    rw [if_neg fun e => hb (Fin.ext e)]
  · intro h
    exact absurd (Finset.mem_univ n) h

/-- The result from the scratch row. -/
theorem pay4_at (v : Vec Ideal S1x128 .f32) :
    k0_pay4 (F := Ideal) (k0_pay49 (iota .tc S1x128 32 [1] iota_S1x128_d1_w32) v)
        (k0_pay50 (iota .tc S1x128 32 [1] iota_S1x128_d1_w32) v) (k0_pay51 (iota .tc S1x128 32 [1] iota_S1x128_d1_w32) v)
        (ix2 0 0)
      = combine (v (ix2 0 0)) (v (ix2 0 1)) (v (ix2 0 2)) (v (ix2 0 3)) := by
  have h0 := pick_lane 0 fun l => v (ix2 0 l)
  have h1 := pick_lane 1 fun l => v (ix2 0 l)
  have h2 := pick_lane 2 fun l => v (ix2 0 l)
  have h3 := pick_lane 3 fun l => v (ix2 0 l)
  rw [← h0, ← h1, ← h2, ← h3]
  pointwise [k0_pay4, k0_pay49, k0_pay50, k0_pay51]
  simp only [Finset.univ_unique, Finset.sum_singleton]
  rfl

end Cert.Loss

end
-- ==== Proof.KerFold.lean ====
/- The kernel's result: the scratch row after the last grid step, and the loss combined from it. -/
module

public import proofs.«01_k».proof.Proof.KerBlocks
public import proofs.«01_k».proof.Proof.KerPoint
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen
open scoped BigOperators

namespace Cert.Loss

variable (m : (ℓ : Loc nD τ sig) → Buf (Elt Ideal) ℓ) (c : Dev nD)

/-! ## The argument arrays as functions of their coordinates -/

/-- The likelihood's centres. -/
def aEl (d : Fin 10) (k : Fin 16) : EReal := m ((c : Thread nD τ).loc main_arg0) (ix2 d k)
/-- The prior. -/
def aPp (n : Fin 8192) (d : Fin 10) : EReal := m ((c : Thread nD τ).loc main_arg1) (ix2 n d)
/-- The graph kernels. -/
def aK (p : Fin 16) (i j : Fin 512) : EReal := m ((c : Thread nD τ).loc main_arg2) (ix3 p i j)
/-- The counts. -/
def aSp (n : Fin 8192) (v : Fin 512) : EReal := m ((c : Thread nD τ).loc main_arg3) (ix2 n v)
/-- The topic scores. -/
def aX (n : Fin 8192) (v : Fin 512) (k : Fin 16) : EReal := m ((c : Thread nD τ).loc main_arg4) (ix3 n v k)
/-- The domain scores. -/
def aPd (n : Fin 8192) (d : Fin 10) : EReal := m ((c : Thread nD τ).loc main_arg5) (ix2 n d)

/-! ## What one grid step adds -/

/-- The documents' sum of step `p`. -/
def docSum (p : Fin 16) : EReal :=
  ∑ i, gaussK (fun k v => aX m c (row p i) v k) (aSp m c (row p i)) (aPd m c (row p i)) (aEl m c)

/-- Partition `p`'s smoothness term. -/
def lapAt (p : Fin 16) : EReal := lapK (aK m c p) fun i => aPd m c (row p i)
/-- Partition `p`'s cross term. -/
def crossAt (p : Fin 16) : EReal := crossK (aK m c p) (fun i => aPp m c (row p i)) fun i => aPd m c (row p i)
/-- Partition `p`'s sum of the probabilities times their logarithms. -/
def plogAt (p : Fin 16) : EReal := plogK fun i => aPd m c (row p i)

/-- What partition step `q` adds to the scratch row. -/
def partRow (q : Fin 4) (l : Fin 128) : EReal :=
  lane 1 (addFour (lapAt m c) q) l + lane 2 (addFour (crossAt m c) q) l + lane 3 (subFour (plogAt m c) q) l

/-- What grid step `t` adds to the scratch row. -/
def stepRow (t : Fin cfg0.N) (l : Fin 128) : EReal :=
  if h : t.val < 16 then lane 0 (docSum m c ⟨t.val, h⟩) l else partRow m c (late t (not_lt.mp h)) l

variable (t : Fin cfg0.N)

/-- A document step's payload over its blocks. -/
theorem doc_step (ht : t.val < 16) (acc : Vec Ideal S1x128 .f32) (l : Fin 128) :
    k0_pay2 (F := Ideal) (k0_pay6 (iblk m c 1 t)) (k0_pay8 (iblk m c 0 t) (iblk m c 1 t) (iblk m c 3 t) (iblk m c 2 t))
        (k0_pay9 (iblk m c 3 t) (iblk m c 2 t)) (k0_pay10 (iblk m c 0 t) (iblk m c 1 t)) acc (ix2 0 l)
      = acc (ix2 0 l) + stepRow m c t l := by
  rw [pay2_at]
  unfold stepRow docSum
  rw [dif_pos ht]
  simp only [blk0 m c t ht, blk1 m c t ht, blk2 m c t ht, blk3 m c t]
  rfl

/-- A partition step's payload over its four graph kernels, priors and scores. -/
theorem part_step (ht : 16 ≤ t.val) (K0 K1 K2 K3 : Vec Ideal S1x512x512 .f32) (P0 P1 P2 P3 D0 D1 D2 D3 : Vec Ideal S512x10 .f32)
    (hK0 : ∀ a b, K0 (ix3 0 a b) = aK m c (quad (late t ht) 0 (by decide)) a b)
    (hK1 : ∀ a b, K1 (ix3 0 a b) = aK m c (quad (late t ht) 1 (by decide)) a b)
    (hK2 : ∀ a b, K2 (ix3 0 a b) = aK m c (quad (late t ht) 2 (by decide)) a b)
    (hK3 : ∀ a b, K3 (ix3 0 a b) = aK m c (quad (late t ht) 3 (by decide)) a b)
    (hP0 : ∀ a d, P0 (ix2 a d) = aPp m c (row (quad (late t ht) 0 (by decide)) a) d)
    (hP1 : ∀ a d, P1 (ix2 a d) = aPp m c (row (quad (late t ht) 1 (by decide)) a) d)
    (hP2 : ∀ a d, P2 (ix2 a d) = aPp m c (row (quad (late t ht) 2 (by decide)) a) d)
    (hP3 : ∀ a d, P3 (ix2 a d) = aPp m c (row (quad (late t ht) 3 (by decide)) a) d)
    (hD0 : ∀ a d, D0 (ix2 a d) = aPd m c (row (quad (late t ht) 0 (by decide)) a) d)
    (hD1 : ∀ a d, D1 (ix2 a d) = aPd m c (row (quad (late t ht) 1 (by decide)) a) d)
    (hD2 : ∀ a d, D2 (ix2 a d) = aPd m c (row (quad (late t ht) 2 (by decide)) a) d)
    (hD3 : ∀ a d, D3 (ix2 a d) = aPd m c (row (quad (late t ht) 3 (by decide)) a) d)
    (acc : Vec Ideal S1x128 .f32) (l : Fin 128) :
    k0_pay3 (F := Ideal)
        (k0_pay45 (k0_pay36 (k0_pay25 (k0_pay16 D0) D1) D2) D3 (k0_pay41 D3) (k0_pay42 D3) (k0_pay43 D3))
        (k0_pay46 (k0_pay38 (k0_pay30 (k0_pay19 (k0_pay12 K0 P0) (k0_pay15 D0)) (k0_pay21 K1 P1) (k0_pay24 D1))
          (k0_pay32 K2 P2) (k0_pay35 D2)) (k0_pay40 K3 P3) (k0_pay41 D3) (k0_pay43 D3))
        acc
        (k0_pay47 (iota .tc S1x128 32 [1] iota_S1x128_d1_w32)
          (k0_pay37 (k0_pay29 (k0_pay18 (k0_pay17 K0 D0)) (k0_pay24 D1) (k0_pay26 K1) (k0_pay27 K1) (k0_pay28 D1))
            (k0_pay31 K2) (k0_pay35 D2)) (k0_pay39 K3) (k0_pay41 D3) (k0_pay43 D3))
        (k0_pay48 (iota .tc S1x128 32 [1] iota_S1x128_d1_w32)) (ix2 0 l)
      = acc (ix2 0 l) + stepRow m c t l := by
  rw [pay3_at, pay47_at, pay45_eq, pay36_eq, pay25_eq, pay16_eq, pay46_eq, pay38_eq, pay30_eq, pay19_eq, pay37_eq,
    pay29_eq, pay18_eq, pay17_eq]
  simp only [hK0, hK1, hK2, hK3, hP0, hP1, hP2, hP3, hD0, hD1, hD2, hD3]
  unfold stepRow
  rw [dif_neg (not_lt.mpr ht)]
  rfl

/-! ## The scratch row after each grid step -/

/-- After the first step: what it adds, from zero. -/
theorem scr_A (h0 : t.val % 20 = 0) (l : Fin 128) :
    (outsAt0 m c t.val t.isLt).2 (ix2 0 l) = 0 + stepRow m c t l := by
  have hN : t.val < 20 := t.isLt
  rw [outsAt0_A m c t h0 (by omega) (by omega) (by omega)]
  dsimp only
  frame_out
  rw [doc_step m c t (by omega), pay1_at]

/-- After a later document step: what it adds to the row before. -/
theorem scr_B (h0 : ¬t.val % 20 = 0) (h1 : t.val < 16) (l : Fin 128) :
    (outsAt0 m c t.val t.isLt).2 (ix2 0 l)
      = (outsAt0 m c (t.val - 1) (Nat.lt_of_le_of_lt (Nat.sub_le _ _) t.isLt)).2 (ix2 0 l) + stepRow m c t l := by
  rw [outsAt0_B m c t h0 h1 (by omega) (by omega)]
  dsimp only
  frame_out
  rw [doc_step m c t h1]
  rw [read_unread_whole]

/-- After a partition step that is not the last: what it adds to the row before. -/
theorem scr_C (h0 : ¬t.val % 20 = 0) (h1 : 16 ≤ t.val) (h3 : ¬t.val % 20 = 19) (l : Fin 128) :
    (outsAt0 m c t.val t.isLt).2 (ix2 0 l)
      = (outsAt0 m c (t.val - 1) (Nat.lt_of_le_of_lt (Nat.sub_le _ _) t.isLt)).2 (ix2 0 l) + stepRow m c t l := by
  rw [outsAt0_C m c t h0 (by omega) h1 h3]
  dsimp only
  frame_out
  refine (part_step m c t h1 _ _ _ _ _ _ _ _ _ _ _ _ (blk4 m c t h1 0 (by decide) _) (blk4 m c t h1 1 (by decide) _)
    (blk4 m c t h1 2 (by decide) _) (blk4 m c t h1 3 (by decide) _) (blk5 m c t h1 0 (by decide) _)
    (blk5 m c t h1 1 (by decide) _) (blk5 m c t h1 2 (by decide) _) (blk5 m c t h1 3 (by decide) _)
    (blk6 m c t h1 0 (by decide) _) (blk6 m c t h1 1 (by decide) _) (blk6 m c t h1 2 (by decide) _)
    (blk6 m c t h1 3 (by decide) _) _ _).trans ?_
  rw [read_unread_whole]

/-- After the last step: what it adds to the row before. -/
theorem scr_D (h3 : t.val % 20 = 19) (l : Fin 128) :
    (outsAt0 m c t.val t.isLt).2 (ix2 0 l)
      = (outsAt0 m c (t.val - 1) (Nat.lt_of_le_of_lt (Nat.sub_le _ _) t.isLt)).2 (ix2 0 l) + stepRow m c t l := by
  have hN : t.val < 20 := t.isLt
  have h1 : 16 ≤ t.val := by omega
  rw [outsAt0_D m c t (by omega) (by omega) h1 h3]
  dsimp only
  frame_out
  refine (part_step m c t h1 _ _ _ _ _ _ _ _ _ _ _ _ (blk4 m c t h1 0 (by decide) _) (blk4 m c t h1 1 (by decide) _)
    (blk4 m c t h1 2 (by decide) _) (blk4 m c t h1 3 (by decide) _) (blk5 m c t h1 0 (by decide) _)
    (blk5 m c t h1 1 (by decide) _) (blk5 m c t h1 2 (by decide) _) (blk5 m c t h1 3 (by decide) _)
    (blk6 m c t h1 0 (by decide) _) (blk6 m c t h1 1 (by decide) _) (blk6 m c t h1 2 (by decide) _)
    (blk6 m c t h1 3 (by decide) _) _ _).trans ?_
  rw [read_unread_whole]

/-- The last step's result is combined from the scratch row that step leaves. -/
theorem out_D (h3 : t.val % 20 = 19) :
    (outsAt0 m c t.val t.isLt).1 = k0_pay4 (F := Ideal)
      (k0_pay49 (iota .tc S1x128 32 [1] iota_S1x128_d1_w32) (outsAt0 m c t.val t.isLt).2)
      (k0_pay50 (iota .tc S1x128 32 [1] iota_S1x128_d1_w32) (outsAt0 m c t.val t.isLt).2)
      (k0_pay51 (iota .tc S1x128 32 [1] iota_S1x128_d1_w32) (outsAt0 m c t.val t.isLt).2) := by
  have hN : t.val < 20 := t.isLt
  rw [outsAt0_D m c t (by omega) (by omega) (by omega) h3]
  dsimp only
  frame_out

/-! ## The fold over the grid -/

/-- The scratch row after the last step: the sum of what the steps add. -/
theorem scr_last (tl : Fin cfg0.N) (htl : tl.val = 19) (l : Fin 128) :
    (outsAt0 m c tl.val tl.isLt).2 (ix2 0 l) = ∑ t : Fin cfg0.N, stepRow m c t l := by
  have h := Pipeline.eq_sum_fin_of_reset_step_apply_last (ι := Fin 128) (M := EReal)
    (fun n hn l => (outsAt0 m c n hn).2 (ix2 0 l)) 20 (fun _ => 0) (stepRow m c)
    (fun t h l => scr_A m c t h l)
    (fun t h l => by
      have hN : t.val < 20 := t.isLt
      by_cases h1 : t.val < 16
      · exact scr_B m c t h h1 l
      · by_cases h3 : t.val % 20 = 19
        · exact scr_D m c t h3 l
        · exact scr_C m c t h (not_lt.mp h1) h3 l)
    (le_of_eq N_0) tl (by rw [htl]; rfl) l
  rw [h, zero_add]

/-- A sum over the grid is the document steps' sum plus the partition steps' sum. -/
theorem sum_grid (f : Fin cfg0.N → EReal) :
    ∑ t, f t = ∑ p : Fin 16, f ⟨p.val, by have := p.isLt; show p.val < 20; omega⟩
      + ∑ q : Fin 4, f ⟨16 + q.val, by have := q.isLt; show 16 + q.val < 20; omega⟩ :=
  Fin.sum_univ_add (a := 16) (b := 4) f

/-- A document step adds to lane 0. -/
theorem step_doc (p : Fin 16) (h) (l : Fin 128) : stepRow m c ⟨p.val, h⟩ l = lane 0 (docSum m c p) l := dif_pos p.isLt

/-- A partition step adds to lanes 1, 2 and 3. -/
theorem step_part (q : Fin 4) (h) (l : Fin 128) : stepRow m c ⟨16 + q.val, h⟩ l = partRow m c q l := by
  unfold stepRow
  rw [dif_neg (by simp)]
  congr 1
  exact Fin.ext (by show 16 + q.val - 16 = q.val; omega)

/-- Lane 0 of what the steps add. -/
theorem row0 (p : Fin 16) (q : Fin 4) : lane 0 (docSum m c p) 0 = docSum m c p ∧ partRow m c q 0 = 0 := by
  constructor <;> simp [partRow, lane]

/-- Lane 1 of what the steps add. -/
theorem row1 (p : Fin 16) (q : Fin 4) : lane 0 (docSum m c p) 1 = 0 ∧ partRow m c q 1 = addFour (lapAt m c) q := by
  constructor <;> simp [partRow, lane]

/-- Lane 2 of what the steps add. -/
theorem row2 (p : Fin 16) (q : Fin 4) : lane 0 (docSum m c p) 2 = 0 ∧ partRow m c q 2 = addFour (crossAt m c) q := by
  constructor <;> simp [partRow, lane]

/-- Lane 3 of what the steps add. -/
theorem row3 (p : Fin 16) (q : Fin 4) : lane 0 (docSum m c p) 3 = 0 ∧ partRow m c q 3 = subFour (plogAt m c) q := by
  have h : ((3 : Fin 128) : ℕ) = 3 := rfl
  constructor <;> simp [partRow, lane, h]

/-- THE KERNEL'S RESULT: the loss, from the argument arrays' entries. -/
theorem out_last (tl : Fin cfg0.N) (htl : tl.val = 19) :
    (outsAt0 m c tl.val tl.isLt).1 (ix2 0 0) = lossK (aEl m c) (aPp m c) (aK m c) (aSp m c) (aX m c) (aPd m c) := by
  rw [out_D m c tl (by rw [htl]), pay4_at]
  simp only [scr_last m c tl htl, sum_grid, step_doc, step_part, (row0 m c _ 0).1, (row0 m c 0 _).2, (row1 m c _ 0).1,
    (row1 m c 0 _).2, (row2 m c _ 0).1, (row2 m c 0 _).2, (row3 m c _ 0).1, (row3 m c 0 _).2, Finset.sum_const_zero,
    zero_add, add_zero]
  unfold lossK docSum
  congr 1

/-- The last grid step. -/
def tLast : Fin cfg0.N := ⟨19, by decide⟩

/-- The result array after the run. -/
theorem arr_last : (dats m 0 c).arrAt 7 cfg0.N
    = fun _ => lossK (aEl m c) (aPp m c) (aK m c) (aSp m c) (aX m c) (aPd m c) := by
  refine (dats m 0 c).arrAt_eq_of_after_last 7 tLast (by decide +kernel) _ fun j => ?_
  blk_simp
  rw [after0_7]
  refine Eq.trans (congrArg _ ?_) (out_last m c tLast rfl)
  funext a
  match a with
  | ⟨0, _⟩ => exact Subsingleton.elim (α := Fin 1) _ _
  | ⟨1, _⟩ => exact Subsingleton.elim (α := Fin 1) _ _

end Cert.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_domain
public import proofs.«01_k».proof.Proof.Maths
public import proofs.«01_k».proof.Proof.RefValue
public import proofs.«01_k».proof.Proof.PreFacts
public import proofs.«01_k».proof.Proof.KerFold
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The loss of the kernel's argument arrays on a device. -/
def loss (m : (ℓ : Loc Cert.KernelIdeal.nD Cert.KernelIdeal.τ Cert.KernelIdeal.sig) → Buf (Elt Ideal) ℓ)
    (c : Dev Cert.KernelIdeal.nD) : EReal :=
  Cert.Loss.lossK (Cert.Loss.aEl m c) (Cert.Loss.aPp m c) (Cert.Loss.aK m c) (Cert.Loss.aSp m c) (Cert.Loss.aX m c)
    (Cert.Loss.aPd m c)

/-- The reference's frame: its run ends with the arguments unchanged, and it declares no semaphore. -/
theorem frame_ref : Cert.quiescent_ReferenceIdeal (hReferenceIdeal := Cert.ReferenceIdeal.Gen.facts) := fun m g _ =>
  (θ_run (Cert.ReferenceIdeal.defs (F := Ideal)) _ _).mono (fun r h =>
    ⟨fun c => (h c).2, sem_eq_zero_of_no_sems (by decide) r.2⟩) (Cert.ReferenceIdeal.Value.run m g)

/-- The reference's value of arrays in the domain, at its one index, is the kernel's loss of them. -/
theorem ref_value (x0 x1 x2 x3 x4 x5 x6)
    (h : @Cert.Pre_in_domain.fn Cert.Pre_in_domain.Gen.facts Ideal _ x0 x1 x2 x3 x4 x5 x6 = fun _ => 1#1)
    (j : Cert.ReferenceIdeal.S1x1.Idx) :
    Cert.ReferenceIdeal.Read.val_main_v95 (F := Ideal) x0 x1 x2 x3 x4 x5 j
      = Cert.Loss.lossK (fun d t => x0 (ix2 d t)) (fun n d => x1 (ix2 n d))
          (fun p i j => x2 (ix3 p i j)) (fun n v => x3 (ix2 n v))
          (fun n v t => x4 (ix3 n v t)) (fun n d => x5 (ix2 n d)) := by
  obtain ⟨h0, h2, h4, h5, h3⟩ := Cert.Loss.pre_read x0 x1 x2 x3 x4 x5 x6 h
  have hj : j = ix2 0 0 := by
    funext a
    match a with
    | ⟨0, _⟩ => exact Subsingleton.elim (α := Fin 1) _ _
    | ⟨1, _⟩ => exact Subsingleton.elim (α := Fin 1) _ _
  rw [hj, Cert.ReferenceIdeal.Point.v95_at]
  exact (Cert.Loss.loss_eq _ _ _ _ _ _ h0 h2 h4 h5 h3).symm

/-- The two programs compute one value on arrays in the domain. -/
theorem algebraic : Cert.algebraic_KernelIdeal_ReferenceIdeal_pre_in_domain (hKernelIdeal := Cert.KernelIdeal.Gen.facts)
    (hReferenceIdeal := Cert.ReferenceIdeal.Gen.facts) (hPre_in_domain := Cert.Pre_in_domain.Gen.facts) := by
  intro m g m' g' hpre hargs
  refine ⟨fun c => fun _ => loss m c, ?_, ?_⟩
  · refine (θ_run (Cert.KernelIdeal.defs (F := Ideal)) _ _).mono (fun r h c => ?_) (Cert.KernelIdeal.Gen.run_main m g)
    open Cert.KernelIdeal Cert.KernelIdeal.Gen in
    exact ⟨((h c).1 7).trans (Cert.Loss.arr_last m c),
      ((h c).1 3).trans (((dats m 0 c).arrAt_in 3 rfl _).trans ((A_eq m c 3).trans (V_main_arg0 m c))),
      ((h c).1 5).trans (((dats m 0 c).arrAt_in 5 rfl _).trans ((A_eq m c 5).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).1 6).trans (((dats m 0 c).arrAt_in 6 rfl _).trans ((A_eq m c 6).trans (V_main_arg5 m c))),
      ((h c).2 main_arg6 (Pipeline.mem_restRefs_of main_arg6 (by decide) (by decide))).trans (V_main_arg6 m c)⟩
  · refine (θ_run (Cert.ReferenceIdeal.defs (F := Ideal)) _ _).mono (fun r h c => ⟨(h c).1.trans ?_, (h c).2⟩)
      (Cert.ReferenceIdeal.Value.run m' g')
    refine (Cert.ReferenceIdeal.Read.val_main_v95_eq m' c).trans ?_
    obtain ⟨e0, e1, e2, e3, e4, e5, -⟩ := hargs c
    rw [e0, e1, e2, e3, e4, e5]
    funext j
    exact ref_value _ _ _ _ _ _ _ (hpre c) j

/-- Everything claimed. -/
theorem claim : Cert.Claim :=
  ⟨Cert.Kernel.Gen.facts, Cert.KernelIdeal.Gen.facts, Cert.ReferenceIdeal.Gen.facts, Cert.Pre_in_domain.Gen.facts,
    fun m ρ _ => Cert.Kernel.Gen.frame m ρ, fun m ρ _ => Cert.KernelIdeal.Gen.frame m ρ,
    fun m ρ _ => Cert.KernelIdeal.Gen.frame m ρ, frame_ref, fun m g _ => frame_ref m g trivial, trivial,
    algebraic⟩

end Cert.Proof

end
